-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_weights [hPre_finite_weights : Cert.Pre_finite_weights.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_weights.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite_weights.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_weights [hPre_finite_weights : Cert.Pre_finite_weights.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_weights.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite_weights.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2 = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_weights [hKernel4Ideal : Cert.Kernel4Ideal.Facts] [hPre_finite_weights : Cert.Pre_finite_weights.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_weights m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_weights [hReference4Ideal : Cert.Reference4Ideal.Facts] [hPre_finite_weights : Cert.Pre_finite_weights.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_weights m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_3) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_v18) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_weights [hKernel4Ideal : Cert.Kernel4Ideal.Facts] [hReference4Ideal : Cert.Reference4Ideal.Facts] [hPre_finite_weights : Cert.Pre_finite_weights.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_weights m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v16_1)) (v1 : (c : Dev Cert.Kernel4Ideal.nD) → Buf (Elt Ideal) ((c.tc : Thread Cert.Kernel4Ideal.nD Cert.Kernel4Ideal.τ).loc Cert.Kernel4Ideal.main_v16_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v16_1) = v0 c
          ∧ r.2.mem ((c.tc : Thread Cert.Kernel4Ideal.nD Cert.Kernel4Ideal.τ).loc Cert.Kernel4Ideal.main_v16_2) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_v56) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_weights : Cert.Pre_finite_weights.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_weights (hKernel4Ideal := hKernel4Ideal) (hPre_finite_weights := hPre_finite_weights)
    ∧ quiescent_Reference4Ideal (hReference4Ideal := hReference4Ideal)
    ∧ quiescent_Reference4Ideal_pre_finite_weights (hReference4Ideal := hReference4Ideal) (hPre_finite_weights := hPre_finite_weights)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_weights (hKernel4Ideal := hKernel4Ideal) (hReference4Ideal := hReference4Ideal) (hPre_finite_weights := hPre_finite_weights)
-- ==== Pre_finite_weights.lean ====
abbrev S16384x1024 : Shape := ⟨2, ![16384, 1024]⟩
abbrev S1024 : Shape := ⟨1, ![1024]⟩
abbrev S1024x3332 : Shape := ⟨2, ![1024, 3332]⟩
abbrev S8x64 : Shape := ⟨2, ![8, 64]⟩
abbrev S4 : Shape := ⟨1, ![4]⟩
abbrev S_ : Shape := ⟨0, ![]⟩

class Facts : Prop where
  bcast_S_S1024 : S_.BroadcastsInDim S1024 (![] : Fin 0 → Fin S1024.rank)
  bcast_S_S1024x3332 : S_.BroadcastsInDim S1024x3332 (![] : Fin 0 → Fin S1024x3332.rank)

variable [Facts]

def fn {F : FTy → Type} [FloatOps F] (main_arg0 : FVec F S16384x1024 .f32) (main_arg1 : FVec F S1024 .f32) (main_arg2 : FVec F S1024x3332 .f32) (main_arg3 : FVec F S8x64 .f32) (main_arg4 : FVec F S8x64 .f32) (main_arg5 : FVec F S4 .f32) : IVec S1024 1 × IVec S1024x3332 1 :=
  let main_cst : FVec F S_ .f32 := constant S_ .f32 0xFF800000#32
  let main_v0 : FVec F S1024 .f32 := broadcastInDim S1024 ![] bcast_S_S1024 main_cst
  let main_v1 : IVec S1024 1 := cmpf .ogt main_arg1 main_v0
  let main_cst_0 : FVec F S_ .f32 := constant S_ .f32 0x7F800000#32
  let main_v2 : FVec F S1024 .f32 := broadcastInDim S1024 ![] bcast_S_S1024 main_cst_0
  let main_v3 : IVec S1024 1 := cmpf .olt main_arg1 main_v2
  let main_v4 : IVec S1024 1 := andi main_v1 main_v3
  let main_cst_1 : FVec F S_ .f32 := constant S_ .f32 0xFF800000#32
  let main_v5 : FVec F S1024x3332 .f32 := broadcastInDim S1024x3332 ![] bcast_S_S1024x3332 main_cst_1
  let main_v6 : IVec S1024x3332 1 := cmpf .ogt main_arg2 main_v5
  let main_cst_2 : FVec F S_ .f32 := constant S_ .f32 0x7F800000#32
  let main_v7 : FVec F S1024x3332 .f32 := broadcastInDim S1024x3332 ![] bcast_S_S1024x3332 main_cst_2
  let main_v8 : IVec S1024x3332 1 := cmpf .olt main_arg2 main_v7
  let main_v9 : IVec S1024x3332 1 := andi main_v6 main_v8
  (main_v4, main_v9)
-- ==== Kernel2.lean ====
abbrev S16384x1024 : Shape := ⟨2, ![16384, 1024]⟩
abbrev S16384x256 : Shape := ⟨2, ![16384, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 14
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S1024x1024, .bf16⟩
  | .hbm, ⟨10, _⟩ => ⟨S1x1024, .f32⟩
  | .hbm, ⟨11, _⟩ => ⟨S1024x4096, .bf16⟩
  | .hbm, ⟨12, _⟩ => ⟨S4096x1024, .bf16⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S16384x1024 : Shape := ⟨2, ![16384, 1024]⟩
abbrev S16384x256 : Shape := ⟨2, ![16384, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x256, .f32⟩
  | .hbm, ⟨3, _⟩ => ⟨S16384x256, .f32⟩
  | .hbm, ⟨4, _⟩ => ⟨S16384x256, .f32⟩
  | .hbm, ⟨5, _⟩ => ⟨S1024x1024, .f32⟩
  | .hbm, ⟨6, _⟩ => ⟨S1024, .f32⟩
  | .hbm, ⟨7, _⟩ => ⟨S1024x4096, .f32⟩
  | .hbm, ⟨8, _⟩ => ⟨S4096x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x4096, .f32⟩
  | .hbm, ⟨29, _⟩ => ⟨S_, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x3332 : Shape := ⟨2, ![1024, 3332]⟩
abbrev S8x64 : Shape := ⟨2, ![8, 64]⟩
abbrev S4 : Shape := ⟨1, ![4]⟩
abbrev S1x1024 : Shape := ⟨2, ![1, 1024]⟩
abbrev S1024x1024 : Shape := ⟨2, ![1024, 1024]⟩
abbrev S1024x768 : Shape := ⟨2, ![1024, 768]⟩
abbrev S1024x4 : Shape := ⟨2, ![1024, 4]⟩
abbrev S4x1024 : Shape := ⟨2, ![4, 1024]⟩
abbrev S_ : Shape := ⟨0, ![]⟩
abbrev S8x1024 : Shape := ⟨2, ![8, 1024]⟩
abbrev S1x512 : Shape := ⟨2, ![1, 512]⟩
abbrev S1x4 : Shape := ⟨2, ![1, 4]⟩
abbrev S1x128 : Shape := ⟨2, ![1, 128]⟩
abbrev S16384x768 : Shape := ⟨2, ![16384, 768]⟩
abbrev S16384x1536 : Shape := ⟨2, ![16384, 1536]⟩
abbrev S16384x4 : Shape := ⟨2, ![16384, 4]⟩
abbrev S32x2x256 : Shape := ⟨3, ![32, 2, 256]⟩
abbrev S512x1024 : Shape := ⟨2, ![512, 1024]⟩
abbrev S512x768 : Shape := ⟨2, ![512, 768]⟩
abbrev S512x1536 : Shape := ⟨2, ![512, 1536]⟩
abbrev S512x4 : Shape := ⟨2, ![512, 4]⟩
abbrev S1x2x256 : Shape := ⟨3, ![1, 2, 256]⟩
abbrev S512 : Shape := ⟨1, ![512]⟩
abbrev S512x1 : Shape := ⟨2, ![512, 1]⟩
abbrev S512x512 : Shape := ⟨2, ![512, 512]⟩
abbrev S512x256 : Shape := ⟨2, ![512, 256]⟩
abbrev S512x128 : Shape := ⟨2, ![512, 128]⟩
abbrev S2x256x256 : Shape := ⟨3, ![2, 256, 256]⟩
abbrev S2x256 : Shape := ⟨2, ![2, 256]⟩

abbrev nBuf : Space → Nat
  | .hbm => 32
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3332, .f32⟩
  | .hbm, ⟨3, _⟩ => ⟨S8x64, .f32⟩
  | .hbm, ⟨4, _⟩ => ⟨S8x64, .f32⟩
  | .hbm, ⟨5, _⟩ => ⟨S4, .f32⟩
  | .hbm, ⟨6, _⟩ => ⟨S1x1024, .f32⟩
  | .hbm, ⟨7, _⟩ => ⟨S1024x1024, .f32⟩
  | .hbm, ⟨8, _⟩ => ⟨S1024x1024, .bf16⟩
  | .hbm, ⟨9, _⟩ => ⟨S1024x768, .f32⟩
  | .hbm, ⟨10, _⟩ => ⟨S1024x768, .bf16⟩
  | .hbm, ⟨11, _⟩ => ⟨S1024x768, .f32⟩
  | .hbm, ⟨12, _⟩ => ⟨S1024x768, .bf16⟩
  | .hbm, ⟨13, _⟩ => ⟨S1024x768, .f32⟩
  | .hbm, ⟨14, _⟩ => ⟨S1024x768, .bf16⟩
  | .hbm, ⟨15, _⟩ => ⟨S1024x4, .f32⟩
  | .hbm, ⟨16, _⟩ => ⟨S4x1024, .f32⟩
  | .hbm, ⟨17, _⟩ => ⟨S_, .i32⟩
  | .hbm, ⟨18, _⟩ => ⟨S_, .f32⟩
  | .hbm, ⟨19, _⟩ => ⟨S8x1024, .f32⟩
  | .hbm, ⟨20, _⟩ => ⟨S1x512, .f32⟩
  | .hbm, ⟨21, _⟩ => ⟨S1x512, .f32⟩
  | .hbm, ⟨22, _⟩ => ⟨S1x4, .f32⟩
  | .hbm, ⟨23, _⟩ => ⟨S_, .i32⟩
  | .hbm, ⟨24, _⟩ => ⟨S_, .f32⟩
  | .hbm, ⟨25, _⟩ => ⟨S1x128, .f32⟩
  | .hbm, ⟨26, _⟩ => ⟨S16384x1024, .f32⟩
  | .hbm, ⟨27, _⟩ => ⟨S16384x768, .f32⟩
  | .hbm, ⟨28, _⟩ => ⟨S16384x1536, .f32⟩
  | .hbm, ⟨29, _⟩ => ⟨S16384x4, .f32⟩
  | .hbm, ⟨30, _⟩ => ⟨S16384x4, .f32⟩
  | .hbm, ⟨31, _⟩ => ⟨S32x2x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S8x1024, .f32⟩
  | .local _ .vmem, ⟨8, _⟩ => ⟨S1x512, .f32⟩
  | .local _ .vmem, ⟨9, _⟩ => ⟨S1x512, .f32⟩
  | .local _ .vmem, ⟨10, _⟩ => ⟨S1x128, .f32⟩
  | .local _ .vmem, ⟨11, _⟩ => ⟨S512x1024, .f32⟩
  | .local _ .vmem, ⟨12, _⟩ => ⟨S512x1024, .f32⟩
  | .local _ .vmem, ⟨13, _⟩ => ⟨S512x768, .f32⟩
  | .local _ .vmem, ⟨14, _⟩ => ⟨S512x768, .f32⟩
  | .local _ .vmem, ⟨15, _⟩ => ⟨S512x1536, .f32⟩
  | .local _ .vmem, ⟨16, _⟩ => ⟨S512x1536, .f32⟩
  | .local _ .vmem, ⟨17, _⟩ => ⟨S512x4, .f32⟩
  | .local _ .vmem, ⟨18, _⟩ => ⟨S512x4, .f32⟩
  | .local _ .vmem, ⟨19, _⟩ => ⟨S512x4, .f32⟩
  | .local _ .vmem, ⟨20, _⟩ => ⟨S512x4, .f32⟩
  | .local _ .vmem, ⟨21, _⟩ => ⟨S1x2x256, .f32⟩
  | .local _ .vmem, ⟨22, _⟩ => ⟨S1x2x256, .f32⟩
  | .local _ .vmem, ⟨23, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_call1_v0 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x4 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x4 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S16384x1024 : Shape := ⟨2, ![16384, 1024]⟩
abbrev S1024 : Shape := ⟨1, ![1024]⟩
abbrev S1024x3332 : Shape := ⟨2, ![1024, 3332]⟩
abbrev S8x64 : Shape := ⟨2, ![8, 64]⟩
abbrev S4 : Shape := ⟨1, ![4]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3332 : Shape := ⟨2, ![16384, 3332]⟩
abbrev S16384x4 : Shape := ⟨2, ![16384, 4]⟩
abbrev S1x4 : Shape := ⟨2, ![1, 4]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3332, .f32⟩
  | .hbm, ⟨3, _⟩ => ⟨S8x64, .f32⟩
  | .hbm, ⟨4, _⟩ => ⟨S8x64, .f32⟩
  | .hbm, ⟨5, _⟩ => ⟨S4, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x3332, .f32⟩
  | .hbm, ⟨23, _⟩ => ⟨S16384x4, .f32⟩
  | .hbm, ⟨24, _⟩ => ⟨S1x4, .f32⟩
  | .hbm, ⟨25, _⟩ => ⟨S16384x4, .f32⟩
  | .hbm, ⟨26, _⟩ => ⟨S16384x4, .f32⟩
  | .hbm, ⟨27, _⟩ => ⟨S16384x4, .f32⟩
  | .hbm, ⟨28, _⟩ => ⟨S_, .f32⟩
  | .hbm, ⟨29, _⟩ => ⟨S16384x4, .f32⟩
  | .hbm, ⟨30, _⟩ => ⟨S16384x4, .f32⟩
  | .hbm, ⟨31, _⟩ => ⟨S16384x4, .f32⟩
  | .hbm, ⟨32, _⟩ => ⟨S16384x4, .f32⟩
  | .hbm, ⟨33, _⟩ => ⟨S16384x4, .i1⟩
  | .hbm, ⟨34, _⟩ => ⟨S16384x4, .f32⟩
  | .hbm, ⟨35, _⟩ => ⟨S16384x4, .f32⟩
  | .hbm, ⟨36, _⟩ => ⟨S16384x4, .f32⟩
  | .hbm, ⟨37, _⟩ => ⟨S16384x4, .f32⟩
  | .hbm, ⟨38, _⟩ => ⟨S16384x4, .f32⟩
  | .hbm, ⟨39, _⟩ => ⟨S16384x4, .f32⟩
  | .hbm, ⟨40, _⟩ => ⟨S16384x4, .f32⟩
  | .hbm, ⟨41, _⟩ => ⟨S16384x4, .f32⟩
  | .hbm, ⟨42, _⟩ => ⟨S16384x4, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_call0_cst : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_v9 : Ref sig .tc := ⟨.hbm, 38, rfl⟩
abbrev main_call0_call0_v10 : Ref sig .tc := ⟨.hbm, 39, rfl⟩
abbrev main_call0_call0_v11 : Ref sig .tc := ⟨.hbm, 40, rfl⟩
abbrev main_call0_v1 : Ref sig .tc := ⟨.hbm, 41, rfl⟩
abbrev main_v18 : Ref sig .tc := ⟨.hbm, 42, rfl⟩
abbrev main_v19 : Ref sig .tc := ⟨.hbm, 43, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x3332 : Shape := ⟨2, ![1024, 3332]⟩
abbrev S8x64 : Shape := ⟨2, ![8, 64]⟩
abbrev S4 : Shape := ⟨1, ![4]⟩
abbrev S1x1024 : Shape := ⟨2, ![1, 1024]⟩
abbrev S1024x1024 : Shape := ⟨2, ![1024, 1024]⟩
abbrev S1024x768 : Shape := ⟨2, ![1024, 768]⟩
abbrev S1024x4 : Shape := ⟨2, ![1024, 4]⟩
abbrev S4x1024 : Shape := ⟨2, ![4, 1024]⟩
abbrev S_ : Shape := ⟨0, ![]⟩
abbrev S8x1024 : Shape := ⟨2, ![8, 1024]⟩
abbrev S1x512 : Shape := ⟨2, ![1, 512]⟩
abbrev S1x4 : Shape := ⟨2, ![1, 4]⟩
abbrev S1x128 : Shape := ⟨2, ![1, 128]⟩
abbrev S16384x768 : Shape := ⟨2, ![16384, 768]⟩
abbrev S16384x1536 : Shape := ⟨2, ![16384, 1536]⟩
abbrev S16384x4 : Shape := ⟨2, ![16384, 4]⟩
abbrev S32x2x256 : Shape := ⟨3, ![32, 2, 256]⟩
abbrev S512x1024 : Shape := ⟨2, ![512, 1024]⟩
abbrev S512x768 : Shape := ⟨2, ![512, 768]⟩
abbrev S512x1536 : Shape := ⟨2, ![512, 1536]⟩
abbrev S512x4 : Shape := ⟨2, ![512, 4]⟩
abbrev S1x2x256 : Shape := ⟨3, ![1, 2, 256]⟩
abbrev S512 : Shape := ⟨1, ![512]⟩
abbrev S512x1 : Shape := ⟨2, ![512, 1]⟩
abbrev S512x512 : Shape := ⟨2, ![512, 512]⟩
abbrev S512x256 : Shape := ⟨2, ![512, 256]⟩
abbrev S512x128 : Shape := ⟨2, ![512, 128]⟩
abbrev S2x256x256 : Shape := ⟨3, ![2, 256, 256]⟩
abbrev S2x256 : Shape := ⟨2, ![2, 256]⟩

abbrev nBuf : Space → Nat
  | .hbm => 32
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3332, .f32⟩
  | .hbm, ⟨3, _⟩ => ⟨S8x64, .f32⟩
  | .hbm, ⟨4, _⟩ => ⟨S8x64, .f32⟩
  | .hbm, ⟨5, _⟩ => ⟨S4, .f32⟩
  | .hbm, ⟨6, _⟩ => ⟨S1x1024, .f32⟩
  | .hbm, ⟨7, _⟩ => ⟨S1024x1024, .f32⟩
  | .hbm, ⟨8, _⟩ => ⟨S1024x1024, .bf16⟩
  | .hbm, ⟨9, _⟩ => ⟨S1024x768, .f32⟩
  | .hbm, ⟨10, _⟩ => ⟨S1024x768, .bf16⟩
  | .hbm, ⟨11, _⟩ => ⟨S1024x768, .f32⟩
  | .hbm, ⟨12, _⟩ => ⟨S1024x768, .bf16⟩
  | .hbm, ⟨13, _⟩ => ⟨S1024x768, .f32⟩
  | .hbm, ⟨14, _⟩ => ⟨S1024x768, .bf16⟩
  | .hbm, ⟨15, _⟩ => ⟨S1024x4, .f32⟩
  | .hbm, ⟨16, _⟩ => ⟨S4x1024, .f32⟩
  | .hbm, ⟨17, _⟩ => ⟨S_, .i32⟩
  | .hbm, ⟨18, _⟩ => ⟨S_, .f32⟩
  | .hbm, ⟨19, _⟩ => ⟨S8x1024, .f32⟩
  | .hbm, ⟨20, _⟩ => ⟨S1x512, .f32⟩
  | .hbm, ⟨21, _⟩ => ⟨S1x512, .f32⟩
  | .hbm, ⟨22, _⟩ => ⟨S1x4, .f32⟩
  | .hbm, ⟨23, _⟩ => ⟨S_, .i32⟩
  | .hbm, ⟨24, _⟩ => ⟨S_, .f32⟩
  | .hbm, ⟨25, _⟩ => ⟨S1x128, .f32⟩
  | .hbm, ⟨26, _⟩ => ⟨S16384x1024, .f32⟩
  | .hbm, ⟨27, _⟩ => ⟨S16384x768, .f32⟩
  | .hbm, ⟨28, _⟩ => ⟨S16384x1536, .f32⟩
  | .hbm, ⟨29, _⟩ => ⟨S16384x4, .f32⟩
  | .hbm, ⟨30, _⟩ => ⟨S16384x4, .f32⟩
  | .hbm, ⟨31, _⟩ => ⟨S32x2x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .bf16⟩
  | .local _ .vmem, ⟨7, _⟩ => ⟨S8x1024, .f32⟩
  | .local _ .vmem, ⟨8, _⟩ => ⟨S1x512, .f32⟩
  | .local _ .vmem, ⟨9, _⟩ => ⟨S1x512, .f32⟩
  | .local _ .vmem, ⟨10, _⟩ => ⟨S1x128, .f32⟩
  | .local _ .vmem, ⟨11, _⟩ => ⟨S512x1024, .f32⟩
  | .local _ .vmem, ⟨12, _⟩ => ⟨S512x1024, .f32⟩
  | .local _ .vmem, ⟨13, _⟩ => ⟨S512x768, .f32⟩
  | .local _ .vmem, ⟨14, _⟩ => ⟨S512x768, .f32⟩
  | .local _ .vmem, ⟨15, _⟩ => ⟨S512x1536, .f32⟩
  | .local _ .vmem, ⟨16, _⟩ => ⟨S512x1536, .f32⟩
  | .local _ .vmem, ⟨17, _⟩ => ⟨S512x4, .f32⟩
  | .local _ .vmem, ⟨18, _⟩ => ⟨S512x4, .f32⟩
  | .local _ .vmem, ⟨19, _⟩ => ⟨S512x4, .f32⟩
  | .local _ .vmem, ⟨20, _⟩ => ⟨S512x4, .f32⟩
  | .local _ .vmem, ⟨21, _⟩ => ⟨S1x2x256, .f32⟩
  | .local _ .vmem, ⟨22, _⟩ => ⟨S1x2x256, .f32⟩
  | .local _ .vmem, ⟨23, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_call1_v0 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x4 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x4 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S16384x1024 : Shape := ⟨2, ![16384, 1024]⟩
abbrev S1024 : Shape := ⟨1, ![1024]⟩
abbrev S1024x3332 : Shape := ⟨2, ![1024, 3332]⟩
abbrev S8x64 : Shape := ⟨2, ![8, 64]⟩
abbrev S4 : Shape := ⟨1, ![4]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3332 : Shape := ⟨2, ![16384, 3332]⟩
abbrev S16384x768 : Shape := ⟨2, ![16384, 768]⟩
abbrev S16384x12x64 : Shape := ⟨3, ![16384, 12, 64]⟩
abbrev S16384x8x64 : Shape := ⟨3, ![16384, 8, 64]⟩
abbrev S16384x8 : Shape := ⟨2, ![16384, 8]⟩
abbrev S16384x8x1 : Shape := ⟨3, ![16384, 8, 1]⟩
abbrev S1x8x64 : Shape := ⟨3, ![1, 8, 64]⟩
abbrev S16384x4x64 : Shape := ⟨3, ![16384, 4, 64]⟩
abbrev S16384x1x12x64 : Shape := ⟨4, ![16384, 1, 12, 64]⟩
abbrev S16384x2x12x64 : Shape := ⟨4, ![16384, 2, 12, 64]⟩
abbrev S16384x1536 : Shape := ⟨2, ![16384, 1536]⟩

abbrev nBuf : Space → Nat
  | .hbm => 72
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3332, .f32⟩
  | .hbm, ⟨3, _⟩ => ⟨S8x64, .f32⟩
  | .hbm, ⟨4, _⟩ => ⟨S8x64, .f32⟩
  | .hbm, ⟨5, _⟩ => ⟨S4, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x3332, .f32⟩
  | .hbm, ⟨23, _⟩ => ⟨S16384x768, .f32⟩
  | .hbm, ⟨24, _⟩ => ⟨S16384x12x64, .f32⟩
  | .hbm, ⟨25, _⟩ => ⟨S16384x768, .f32⟩
  | .hbm, ⟨26, _⟩ => ⟨S16384x12x64, .f32⟩
  | .hbm, ⟨27, _⟩ => ⟨S16384x768, .f32⟩
  | .hbm, ⟨28, _⟩ => ⟨S16384x12x64, .f32⟩
  | .hbm, ⟨29, _⟩ => ⟨S16384x8x64, .f32⟩
  | .hbm, ⟨30, _⟩ => ⟨S16384x8x64, .f32⟩
  | .hbm, ⟨31, _⟩ => ⟨S_, .f32⟩
  | .hbm, ⟨32, _⟩ => ⟨S16384x8, .f32⟩
  | .hbm, ⟨33, _⟩ => ⟨S16384x8x1, .f32⟩
  | .hbm, ⟨34, _⟩ => ⟨S_, .f32⟩
  | .hbm, ⟨35, _⟩ => ⟨S16384x8x1, .f32⟩
  | .hbm, ⟨36, _⟩ => ⟨S16384x8x1, .f32⟩
  | .hbm, ⟨37, _⟩ => ⟨S_, .f32⟩
  | .hbm, ⟨38, _⟩ => ⟨S16384x8x1, .f32⟩
  | .hbm, ⟨39, _⟩ => ⟨S16384x8x1, .f32⟩
  | .hbm, ⟨40, _⟩ => ⟨S16384x8x1, .f32⟩
  | .hbm, ⟨41, _⟩ => ⟨S16384x8x64, .f32⟩
  | .hbm, ⟨42, _⟩ => ⟨S16384x8x64, .f32⟩
  | .hbm, ⟨43, _⟩ => ⟨S1x8x64, .f32⟩
  | .hbm, ⟨44, _⟩ => ⟨S16384x8x64, .f32⟩
  | .hbm, ⟨45, _⟩ => ⟨S16384x8x64, .f32⟩
  | .hbm, ⟨46, _⟩ => ⟨S16384x4x64, .f32⟩
  | .hbm, ⟨47, _⟩ => ⟨S16384x12x64, .f32⟩
  | .hbm, ⟨48, _⟩ => ⟨S16384x8x64, .f32⟩
  | .hbm, ⟨49, _⟩ => ⟨S16384x8x64, .f32⟩
  | .hbm, ⟨50, _⟩ => ⟨S_, .f32⟩
  | .hbm, ⟨51, _⟩ => ⟨S16384x8, .f32⟩
  | .hbm, ⟨52, _⟩ => ⟨S16384x8x1, .f32⟩
  | .hbm, ⟨53, _⟩ => ⟨S_, .f32⟩
  | .hbm, ⟨54, _⟩ => ⟨S16384x8x1, .f32⟩
  | .hbm, ⟨55, _⟩ => ⟨S16384x8x1, .f32⟩
  | .hbm, ⟨56, _⟩ => ⟨S_, .f32⟩
  | .hbm, ⟨57, _⟩ => ⟨S16384x8x1, .f32⟩
  | .hbm, ⟨58, _⟩ => ⟨S16384x8x1, .f32⟩
  | .hbm, ⟨59, _⟩ => ⟨S16384x8x1, .f32⟩
  | .hbm, ⟨60, _⟩ => ⟨S16384x8x64, .f32⟩
  | .hbm, ⟨61, _⟩ => ⟨S16384x8x64, .f32⟩
  | .hbm, ⟨62, _⟩ => ⟨S1x8x64, .f32⟩
  | .hbm, ⟨63, _⟩ => ⟨S16384x8x64, .f32⟩
  | .hbm, ⟨64, _⟩ => ⟨S16384x8x64, .f32⟩
  | .hbm, ⟨65, _⟩ => ⟨S16384x4x64, .f32⟩
  | .hbm, ⟨66, _⟩ => ⟨S16384x12x64, .f32⟩
  | .hbm, ⟨67, _⟩ => ⟨S16384x1x12x64, .f32⟩
  | .hbm, ⟨68, _⟩ => ⟨S16384x1x12x64, .f32⟩
  | .hbm, ⟨69, _⟩ => ⟨S16384x2x12x64, .f32⟩
  | .hbm, ⟨70, _⟩ => ⟨S16384x768, .f32⟩
  | .hbm, ⟨71, _⟩ => ⟨S16384x1536, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]
-- ==== Proof.Mlp.Payload.lean ====
/- The values the MLP kernel's body computes, read at an index over the extended reals. -/
module

public import proofs.«01_k».proof.Proof.Gen.Kernel2Ideal.Value
public import Idealize.ShloMosaic.Lib.Pointwise

@[expose] public section

set_option maxRecDepth 16384

noncomputable section

namespace Cert.Kernel2Ideal.Mlp

open Cert.Kernel2Ideal Cert.Kernel2Ideal.Gen Idealize.ShloMosaic Idealize.ShloMosaic.TcCoe Idealize.SL.Sem

/-- The residual stream after the mixing product, at a row and a column: the four parts' products with their own rows of
the output projection, added to the input. -/
theorem pay3_apply (x : Vec Ideal S512x1024 .f32) (y1 y2 y3 y4 : Vec Ideal S512x256 .f32) (w1 w2 w3 w4 : Vec Ideal S256x1024 .bf16)
    (r : Fin 512) (d : Fin 1024) :
    k0_pay3 (F := Ideal) x y1 w1 y2 w2 y3 w3 y4 w4 (ix2 r d)
      = (x (ix2 r d) + ∑ k : Fin 256, y1 (ix2 r k) * w1 (ix2 k d) + ∑ k : Fin 256, y2 (ix2 r k) * w2 (ix2 k d)
          + ∑ k : Fin 256, y3 (ix2 r k) * w3 (ix2 k d) + ∑ k : Fin 256, y4 (ix2 r k) * w4 (ix2 k d) : EReal) := by
  unfold k0_pay3
  pointwise

/-- The sum of the squares of a row of the residual stream. -/
theorem pay6_apply (x : Vec Ideal S512x1024 .f32) (y1 y2 y3 y4 : Vec Ideal S512x256 .f32) (w1 w2 w3 w4 : Vec Ideal S256x1024 .bf16)
    (r : Fin 512) :
    k0_pay6 (F := Ideal) x y1 w1 y2 w2 y3 w3 y4 w4 (ix1 r)
      = (∑ k : Fin 1024, k0_pay3 (F := Ideal) x y1 w1 y2 w2 y3 w3 y4 w4 (ix2 r k) * k0_pay3 (F := Ideal) x y1 w1 y2 w2 y3 w3 y4 w4 (ix2 r k) : EReal) := by
  unfold k0_pay6
  generalize k0_pay3 (F := Ideal) x y1 w1 y2 w2 y3 w3 y4 w4 = v
  pointwise

/-- The normalised row. -/
theorem pay1_apply (v : FVec Ideal S512x1024 .f32) (g : FVec Ideal S1x1024 .f32) (s : FVec Ideal S512 .f32) (r : Fin 512) (k : Fin 1024) :
    k0_pay1 (F := Ideal) v g s (ix2 r k)
      = (v (ix2 r k) * Ideal.rsqrt (Ideal.div (s (ix1 r)) (Ideal.ofBits .f32 0x44800000#32) + Ideal.ofBits .f32 0x358637BD#32) * g (ix2 0 k) : EReal) := by
  unfold k0_pay1
  pointwise

/-- One chunk of the hidden layer, added to what the accumulator held. -/
theorem pay2_apply (h : Vec Ideal S512x1024 .bf16) (wu : Vec Ideal S1024x1024 .bf16) (a : Vec Ideal S512x1024 .f32) (wd : Vec Ideal S1024x1024 .bf16)
    (r : Fin 512) (d : Fin 1024) :
    k0_pay2 (F := Ideal) h wu a wd (ix2 r d)
      = (a (ix2 r d) + ∑ f : Fin 1024, (max (∑ k : Fin 1024, h (ix2 r k) * wu (ix2 k f)) 0 * max (∑ k : Fin 1024, h (ix2 r k) * wu (ix2 k f)) 0) * wd (ix2 f d) : EReal) := by
  unfold k0_pay2
  pointwise

end Cert.Kernel2Ideal.Mlp

end
-- ==== Proof.Mlp.Body.lean ====
/- What the MLP kernel's body leaves in its accumulator, its normalised rows and its output, case by case, as the values
   it computes of the blocks it reads. -/
module

public import proofs.«01_k».proof.Proof.Mlp.Payload
public import Idealize.ShloMosaic.Lib.Tactic

@[expose] public section

set_option maxRecDepth 16384

noncomputable section

namespace Cert.Kernel2Ideal.Mlp

open Cert.Kernel2Ideal Cert.Kernel2Ideal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A quarter of the output projection's rows. -/
abbrev wrows (o : ℕ) (h : ∀ a, (![o, 0] : Fin 2 → Nat) a + S256x1024.size a ≤ S1024x1024.size a) (w : Vec F S1024x1024 .bf16) : Vec F S256x1024 .bf16 :=
  View.ld w (Rect.unit (s := S1024x1024) ![o, 0] S256x1024.size h)

/-- The residual stream of a row tile. -/
abbrev resid (x0 : Vec F S512x1024 .f32) (x1 x2 x3 x4 : Vec F S512x256 .f32) (x5 : Vec F S1024x1024 .bf16) : Vec F S512x1024 .f32 :=
  k0_pay3 x0 x1 (wrows 0 inb_S1024x1024_S256x1024_0_0 x5) x2 (wrows 256 inb_S1024x1024_S256x1024_256_0 x5) x3 (wrows 512 inb_S1024x1024_S256x1024_512_0 x5) x4 (wrows 768 inb_S1024x1024_S256x1024_768_0 x5)

/-- The normalised rows of a row tile. -/
abbrev normed (x0 : Vec F S512x1024 .f32) (x1 x2 x3 x4 : Vec F S512x256 .f32) (x5 : Vec F S1024x1024 .bf16) (x6 : Vec F S1x1024 .f32) : Vec F S512x1024 .bf16 :=
  k0_pay1 (resid x0 x1 x2 x3 x4 x5) x6 (k0_pay6 x0 x1 (wrows 0 inb_S1024x1024_S256x1024_0_0 x5) x2 (wrows 256 inb_S1024x1024_S256x1024_256_0 x5) x3 (wrows 512 inb_S1024x1024_S256x1024_512_0 x5) x4 (wrows 768 inb_S1024x1024_S256x1024_768_0 x5))

theorem sout0_A_1_eq (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (hc0 : cond0_0 i) (hc1 : ¬cond0_1 i)
    (x0 : Vec F S512x1024 .f32) (x1 : Vec F S512x256 .f32) (x2 : Vec F S512x256 .f32) (x3 : Vec F S512x256 .f32) (x4 : Vec F S512x256 .f32) (x5 : Vec F S1024x1024 .bf16) (x6 : Vec F S1x1024 .f32) (x7 : Vec F S1024x1024 .bf16) (x8 : Vec F S1024x1024 .bf16) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = normed x0 x1 x2 x3 x4 x5 x6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  (try sl_unfold_words)
  rw [View.canon_unit_zero hz]
  unfold normed resid wrows
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S1024x1024) hz, View.ld_unit_zero (S := S512x256) hz, View.ld_unit_zero (S := S1x1024) hz, View.readCov_unit_zero (S := S512x1024) _ hz, shapeCast_self]
  unfold k0_pay5
  simp only [shapeCast_self]

theorem sout0_A_0_eq (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (hc0 : cond0_0 i) (hc1 : ¬cond0_1 i)
    (x0 : Vec F S512x1024 .f32) (x1 : Vec F S512x256 .f32) (x2 : Vec F S512x256 .f32) (x3 : Vec F S512x256 .f32) (x4 : Vec F S512x256 .f32) (x5 : Vec F S1024x1024 .bf16) (x6 : Vec F S1x1024 .f32) (x7 : Vec F S1024x1024 .bf16) (x8 : Vec F S1024x1024 .bf16) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 = k0_pay2 (normed x0 x1 x2 x3 x4 x5 x6) x7 (resid x0 x1 x2 x3 x4 x5) x8 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8)]
  unfold kernelRun0_A
  dsimp only
  (try sl_unfold_words)
  rw [View.canon_cons_unit_zero (S := S512x1024) hz]
  unfold normed resid wrows
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S1024x1024) hz, View.ld_unit_zero (S := S512x256) hz, View.ld_unit_zero (S := S1x1024) hz, View.readCov_unit_zero (S := S512x1024) _ hz, shapeCast_self]
  unfold k0_pay5 k0_pay4
  simp only [shapeCast_self]

theorem sout0_B_0_eq (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (hc0 : ¬cond0_0 i) (hc1 : ¬cond0_1 i)
    (x0 : Vec F S512x1024 .f32) (x1 : Vec F S512x256 .f32) (x2 : Vec F S512x256 .f32) (x3 : Vec F S512x256 .f32) (x4 : Vec F S512x256 .f32) (x5 : Vec F S1024x1024 .bf16) (x6 : Vec F S1x1024 .f32) (x7 : Vec F S1024x1024 .bf16) (x8 : Vec F S1024x1024 .bf16) (xs0 : Vec F S512x1024 .f32) (xs1 : Vec F S512x1024 .bf16) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay2 xs1 x7 xs0 x8 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_B
  dsimp only
  (try sl_unfold_words)
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S1024x1024) hz, View.ld_unit_zero (S := S512x256) hz, View.ld_unit_zero (S := S1x1024) hz, View.readCov_unit_zero (S := S512x1024) _ hz, shapeCast_self]

theorem sout0_C_0_eq (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (hc0 : ¬cond0_0 i) (hc1 : cond0_1 i)
    (x0 : Vec F S512x1024 .f32) (x1 : Vec F S512x256 .f32) (x2 : Vec F S512x256 .f32) (x3 : Vec F S512x256 .f32) (x4 : Vec F S512x256 .f32) (x5 : Vec F S1024x1024 .bf16) (x6 : Vec F S1x1024 .f32) (x7 : Vec F S1024x1024 .bf16) (x8 : Vec F S1024x1024 .bf16) (xs0 : Vec F S512x1024 .f32) (xs1 : Vec F S512x1024 .bf16) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay2 xs1 x7 xs0 x8 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  (try sl_unfold_words)
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S1024x1024) hz, View.ld_unit_zero (S := S512x256) hz, View.ld_unit_zero (S := S1x1024) hz, View.readCov_unit_zero (S := S512x1024) _ hz, shapeCast_self]

theorem out0_C_9_eq (c : Dev nD) (i : grid0.Coords) (arg2 : Memref sig .tc .vmem S512x1024 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S512x1024 .f32) (harg11 : arg11.IsWhole) (arg12 : Memref sig .tc .vmem S512x1024 .f32) (harg12 : arg12.IsWhole) (arg13 : Memref sig .tc .vmem S512x1024 .bf16) (harg13 : arg13.IsWhole) (hc0 : ¬cond0_0 i) (hc1 : cond0_1 i)
    (x0 : Vec F S512x1024 .f32) (x1 : Vec F S512x256 .f32) (x2 : Vec F S512x256 .f32) (x3 : Vec F S512x256 .f32) (x4 : Vec F S512x256 .f32) (x5 : Vec F S1024x1024 .bf16) (x6 : Vec F S1x1024 .f32) (x7 : Vec F S1024x1024 .bf16) (x8 : Vec F S1024x1024 .bf16) (xs0 : Vec F S512x1024 .f32) (xs1 : Vec F S512x1024 .bf16) :
    out0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 = k0_pay2 xs1 x7 xs0 x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1)]
  unfold kernelRun0_C
  dsimp only
  (try sl_unfold_words)
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1024) hz, View.ld_unit_zero (S := S1024x1024) hz, View.ld_unit_zero (S := S512x256) hz, View.ld_unit_zero (S := S1x1024) hz, View.readCov_unit_zero (S := S512x1024) _ hz, shapeCast_self]

end Cert.Kernel2Ideal.Mlp

end
-- ==== Proof.Mlp.Ref.lean ====
/- The MLP's reference, read at an index over the extended reals, its contractions split into the kernel's parts. -/
module

public import proofs.«01_k».proof.Proof.Gen.Reference2Ideal.Read
public import Idealize.ShloMosaic.Lib.Pointwise

@[expose] public section

set_option maxRecDepth 16384

noncomputable section

namespace Cert.Reference2Ideal.Mlp

open Cert.Reference2Ideal Cert.Reference2Ideal.Gen Cert.Reference2Ideal.Read Idealize.ShloMosaic Idealize.ShloMosaic.TcCoe Idealize.SL.Sem

/-- A sum over `a * b` indices, part by part. -/
theorem sum_parts {M : Type} [AddCommMonoid M] (a b N : ℕ) (h : a * b = N) (g : Fin N → M) :
    ∑ k : Fin N, g k = ∑ j : Fin a, ∑ f : Fin b, g ⟨b * j.val + f.val, by
      have := j.isLt; have := f.isLt; subst h
      calc b * j.val + f.val < b * j.val + b := by omega
        _ = b * (j.val + 1) := by ring
        _ ≤ b * a := Nat.mul_le_mul_left _ (by omega)
        _ = a * b := by ring⟩ := by
  subst h
  rw [← Equiv.sum_comp finProdFinEquiv g, Fintype.sum_prod_type]
  refine Finset.sum_congr rfl fun j _ => Finset.sum_congr rfl fun f _ => congrArg g (Fin.ext ?_)
  simp [finProdFinEquiv]; ring

variable (x0 : (⟨S16384x1024, .f32⟩ : BufTy).Contents (Elt Ideal)) (x1 x2 x3 x4 : (⟨S16384x256, .f32⟩ : BufTy).Contents (Elt Ideal))
  (x5 : (⟨S1024x1024, .f32⟩ : BufTy).Contents (Elt Ideal)) (x6 : (⟨S1024, .f32⟩ : BufTy).Contents (Elt Ideal))
  (x7 : (⟨S1024x4096, .f32⟩ : BufTy).Contents (Elt Ideal)) (x8 : (⟨S4096x1024, .f32⟩ : BufTy).Contents (Elt Ideal))

/-- The residual stream: the product with the joined parts is the sum of the parts' products. -/
theorem v2_apply (r : Fin 16384) (d : Fin 1024) :
    val_main_v2 (F := Ideal) x0 x1 x2 x3 x4 x5 (ix2 r d)
      = (x0 (ix2 r d) + ∑ k : Fin 256, x1 (ix2 r k) * x5 (ix2 ⟨0 + k.val, by omega⟩ d) + ∑ k : Fin 256, x2 (ix2 r k) * x5 (ix2 ⟨256 + k.val, by omega⟩ d)
          + ∑ k : Fin 256, x3 (ix2 r k) * x5 (ix2 ⟨512 + k.val, by omega⟩ d) + ∑ k : Fin 256, x4 (ix2 r k) * x5 (ix2 ⟨768 + k.val, by omega⟩ d) : EReal) := by
  have hc0 : ∀ k : Fin 256, val_main_v0 (F := Ideal) x1 x2 x3 x4 (ix2 r ⟨0 + k.val, by omega⟩) = x1 (ix2 r k) := fun k => by
    unfold val_main_v0
    refine concatenate_apply_piece (t := S16384x1024) _ _ _ _ 0 ?_ S16384x256 x1 ?_ rfl 0 ?_ (ix2 r k) ?_ ?_
    · show 0 < 4; omega
    · rfl
    · rfl
    · intro b hb
      match b with
      | ⟨0, _⟩ => rfl
      | ⟨1, _⟩ => exact absurd rfl hb
    · rfl
  have hc1 : ∀ k : Fin 256, val_main_v0 (F := Ideal) x1 x2 x3 x4 (ix2 r ⟨256 + k.val, by omega⟩) = x2 (ix2 r k) := fun k => by
    unfold val_main_v0
    refine concatenate_apply_piece (t := S16384x1024) _ _ _ _ 1 ?_ S16384x256 x2 ?_ rfl 256 ?_ (ix2 r k) ?_ ?_
    · show 1 < 4; omega
    · rfl
    · rfl
    · intro b hb
      match b with
      | ⟨0, _⟩ => rfl
      | ⟨1, _⟩ => exact absurd rfl hb
    · rfl
  have hc2 : ∀ k : Fin 256, val_main_v0 (F := Ideal) x1 x2 x3 x4 (ix2 r ⟨512 + k.val, by omega⟩) = x3 (ix2 r k) := fun k => by
    unfold val_main_v0
    refine concatenate_apply_piece (t := S16384x1024) _ _ _ _ 2 ?_ S16384x256 x3 ?_ rfl 512 ?_ (ix2 r k) ?_ ?_
    · show 2 < 4; omega
    · rfl
    · rfl
    · intro b hb
      match b with
      | ⟨0, _⟩ => rfl
      | ⟨1, _⟩ => exact absurd rfl hb
    · rfl
  have hc3 : ∀ k : Fin 256, val_main_v0 (F := Ideal) x1 x2 x3 x4 (ix2 r ⟨768 + k.val, by omega⟩) = x4 (ix2 r k) := fun k => by
    unfold val_main_v0
    refine concatenate_apply_piece (t := S16384x1024) _ _ _ _ 3 ?_ S16384x256 x4 ?_ rfl 768 ?_ (ix2 r k) ?_ ?_
    · show 3 < 4; omega
    · rfl
    · rfl
    · intro b hb
      match b with
      | ⟨0, _⟩ => rfl
      | ⟨1, _⟩ => exact absurd rfl hb
    · rfl
  simp only [← hc0, ← hc1, ← hc2, ← hc3]
  unfold val_main_v2 val_main_v1
  generalize val_main_v0 (F := Ideal) x1 x2 x3 x4 = v
  pointwise
  rw [sum_parts 4 256 1024 rfl, Fin.sum_univ_four]
  simp only [← add_assoc]
  rfl

/-- The normalised row. -/
theorem v15_apply (r : Fin 16384) (k : Fin 1024) :
    val_main_v15 (F := Ideal) x0 x1 x2 x3 x4 x5 x6 (ix2 r k)
      = (val_main_v2 (F := Ideal) x0 x1 x2 x3 x4 x5 (ix2 r k) * Ideal.rsqrt (Ideal.div (∑ k : Fin 1024, val_main_v2 (F := Ideal) x0 x1 x2 x3 x4 x5 (ix2 r k) * val_main_v2 (F := Ideal) x0 x1 x2 x3 x4 x5 (ix2 r k)) (Ideal.ofBits .f32 0x44800000#32) + Ideal.ofBits .f32 0x358637BD#32) * x6 (ix1 k) : EReal) := by
  unfold val_main_v15 val_main_v12 val_main_v11 val_main_v10 val_main_v9 val_main_v7 val_main_v5 val_main_v4 val_main_v3 val_main_v6 val_main_v8 val_main_v14 val_main_v13 val_main_cst val_main_cst_0 val_main_cst_1
  generalize val_main_v2 (F := Ideal) x0 x1 x2 x3 x4 x5 = v
  pointwise

/-- A hidden value: the square of the positive part. -/
theorem v18_apply (r : Fin 16384) (f : Fin 4096) :
    val_main_v18 (F := Ideal) x0 x1 x2 x3 x4 x5 x6 x7 (ix2 r f)
      = (max (∑ k : Fin 1024, val_main_v15 (F := Ideal) x0 x1 x2 x3 x4 x5 x6 (ix2 r k) * x7 (ix2 k f)) 0 * max (∑ k : Fin 1024, val_main_v15 (F := Ideal) x0 x1 x2 x3 x4 x5 x6 (ix2 r k) * x7 (ix2 k f)) 0 : EReal) := by
  unfold val_main_v18 val_main_v17 val_main_v16 val_main_call0_v0 val_main_call0_cst
  generalize val_main_v15 (F := Ideal) x0 x1 x2 x3 x4 x5 x6 = v
  pointwise

/-- The result: the residual stream and the four chunks of the hidden layer's product, added one after another. -/
theorem v20_apply (r : Fin 16384) (d : Fin 1024) :
    val_main_v20 (F := Ideal) x0 x1 x2 x3 x4 x5 x6 x7 x8 (ix2 r d)
      = (val_main_v2 (F := Ideal) x0 x1 x2 x3 x4 x5 (ix2 r d)
          + ∑ f : Fin 1024, val_main_v18 (F := Ideal) x0 x1 x2 x3 x4 x5 x6 x7 (ix2 r ⟨1024 * 0 + f.val, by omega⟩) * x8 (ix2 ⟨1024 * 0 + f.val, by omega⟩ d)
          + ∑ f : Fin 1024, val_main_v18 (F := Ideal) x0 x1 x2 x3 x4 x5 x6 x7 (ix2 r ⟨1024 * 1 + f.val, by omega⟩) * x8 (ix2 ⟨1024 * 1 + f.val, by omega⟩ d)
          + ∑ f : Fin 1024, val_main_v18 (F := Ideal) x0 x1 x2 x3 x4 x5 x6 x7 (ix2 r ⟨1024 * 2 + f.val, by omega⟩) * x8 (ix2 ⟨1024 * 2 + f.val, by omega⟩ d)
          + ∑ f : Fin 1024, val_main_v18 (F := Ideal) x0 x1 x2 x3 x4 x5 x6 x7 (ix2 r ⟨1024 * 3 + f.val, by omega⟩) * x8 (ix2 ⟨1024 * 3 + f.val, by omega⟩ d) : EReal) := by
  unfold val_main_v20 val_main_v19
  generalize val_main_v18 (F := Ideal) x0 x1 x2 x3 x4 x5 x6 x7 = v
  generalize val_main_v2 (F := Ideal) x0 x1 x2 x3 x4 x5 = w
  pointwise
  rw [sum_parts 4 1024 4096 rfl, Fin.sum_univ_four]
  simp only [add_assoc]
  rfl

end Cert.Reference2Ideal.Mlp

end
-- ==== Proof.Mlp.Value.lean ====
/- What the MLP's pipeline leaves in its result: point by point, the reference's partial sums. -/
module

public import proofs.«01_k».proof.Proof.Mlp.Body
public import proofs.«01_k».proof.Proof.Mlp.Payload
public import proofs.«01_k».proof.Proof.Mlp.Ref
public import proofs.«01_k».proof.Proof.Gen.Kernel2Ideal.Value
public import Idealize.ShloMosaic.Lib.Pointwise

@[expose] public section

set_option maxRecDepth 16384

noncomputable section

namespace Cert.Kernel2Ideal.Mlp

open Cert.Kernel2Ideal Cert.Kernel2Ideal.Gen Idealize.ShloMosaic Idealize.ShloMosaic.TcCoe Idealize.SL.Sem
open Cert.Reference2Ideal.Read Cert.Reference2Ideal.Mlp

variable (m : (ℓ : Loc nD τ sig) → Buf (Elt Ideal) ℓ) (c : Dev nD)

/-- The argument arrays. -/
abbrev A0 : Vec Ideal S16384x1024 .f32 := m ((c : Thread nD τ).loc main_arg0)
abbrev A1 : Vec Ideal S16384x256 .f32 := m ((c : Thread nD τ).loc main_arg1)
abbrev A2 : Vec Ideal S16384x256 .f32 := m ((c : Thread nD τ).loc main_arg2)
abbrev A3 : Vec Ideal S16384x256 .f32 := m ((c : Thread nD τ).loc main_arg3)
abbrev A4 : Vec Ideal S16384x256 .f32 := m ((c : Thread nD τ).loc main_arg4)
abbrev A5 : Vec Ideal S1024x1024 .f32 := m ((c : Thread nD τ).loc main_arg5)
abbrev A6 : Vec Ideal S1024 .f32 := m ((c : Thread nD τ).loc main_arg6)
abbrev A7 : Vec Ideal S1024x4096 .f32 := m ((c : Thread nD τ).loc main_arg7)
abbrev A8 : Vec Ideal S4096x1024 .f32 := m ((c : Thread nD τ).loc main_arg8)

/-- The array's row that a row of point `t`'s tile is. -/
abbrev row (t : Fin cfg0.N) (r : Fin 512) : Fin 16384 :=
  ⟨512 * (t.val / 4) + r.val, by have h : t.val < 128 := lt_of_lt_of_eq t.isLt N_0; omega⟩

/-! ## The blocks the windows read -/

theorem idx_in : ∀ t : Fin cfg0.N, win0_0.index t 0 = t.val / 4 ∧ win0_0.index t 1 = 0 ∧ win0_1.index t 0 = t.val / 4 ∧ win0_1.index t 1 = 0 ∧ win0_2.index t 0 = t.val / 4 ∧ win0_2.index t 1 = 0 ∧ win0_3.index t 0 = t.val / 4 ∧ win0_3.index t 1 = 0 ∧ win0_4.index t 0 = t.val / 4 ∧ win0_4.index t 1 = 0 ∧ win0_5.index t 0 = 0 ∧ win0_5.index t 1 = 0 ∧ win0_6.index t 0 = 0 ∧ win0_6.index t 1 = 0 ∧ win0_7.index t 0 = 0 ∧ win0_7.index t 1 = t.val % 4 ∧ win0_8.index t 0 = t.val % 4 ∧ win0_8.index t 1 = 0 :=
  (by decide +kernel : ∀ t : Fin grid0.N, _)

theorem iblk0 (t : Fin cfg0.N) (r : Fin 512) (k : Fin 1024) :
    (iblk m c 0 t : Vec Ideal S512x1024 .f32) (ix2 r k) = A0 m c (ix2 (row t r) k) := by
  obtain ⟨e00, e01, e10, e11, e20, e21, e30, e31, e40, e41, e50, e51, e60, e61, e70, e71, e80, e81⟩ := idx_in t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * (t.val / 4) + r.val; rw [e00]; omega
  | ⟨1, _⟩ => show win0_0.index t 1 * 1024 + 1 * k.val = k.val; rw [e01]; omega

theorem iblk1 (t : Fin cfg0.N) (r : Fin 512) (k : Fin 256) :
    (iblk m c 1 t : Vec Ideal S512x256 .f32) (ix2 r k) = A1 m c (ix2 (row t r) k) := by
  obtain ⟨e00, e01, e10, e11, e20, e21, e30, e31, e40, e41, e50, e51, e60, e61, e70, e71, e80, e81⟩ := idx_in t
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * r.val = 512 * (t.val / 4) + r.val; rw [e10]; omega
  | ⟨1, _⟩ => show win0_1.index t 1 * 256 + 1 * k.val = k.val; rw [e11]; omega

theorem iblk2 (t : Fin cfg0.N) (r : Fin 512) (k : Fin 256) :
    (iblk m c 2 t : Vec Ideal S512x256 .f32) (ix2 r k) = A2 m c (ix2 (row t r) k) := by
  obtain ⟨e00, e01, e10, e11, e20, e21, e30, e31, e40, e41, e50, e51, e60, e61, e70, e71, e80, e81⟩ := idx_in t
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * r.val = 512 * (t.val / 4) + r.val; rw [e20]; omega
  | ⟨1, _⟩ => show win0_2.index t 1 * 256 + 1 * k.val = k.val; rw [e21]; omega

theorem iblk3 (t : Fin cfg0.N) (r : Fin 512) (k : Fin 256) :
    (iblk m c 3 t : Vec Ideal S512x256 .f32) (ix2 r k) = A3 m c (ix2 (row t r) k) := by
  obtain ⟨e00, e01, e10, e11, e20, e21, e30, e31, e40, e41, e50, e51, e60, e61, e70, e71, e80, e81⟩ := idx_in t
  unfold iblk
  rw [View.read_apply]
  show V m c main_arg3 _ = m (c.tc.loc main_arg3) _
  rw [V_main_arg3]
  congr 1
  funext a
  apply Fin.ext
  match a with
  | ⟨0, _⟩ => show win0_3.index t 0 * 512 + 1 * r.val = 512 * (t.val / 4) + r.val; rw [e30]; omega
  | ⟨1, _⟩ => show win0_3.index t 1 * 256 + 1 * k.val = k.val; rw [e31]; omega

theorem iblk4 (t : Fin cfg0.N) (r : Fin 512) (k : Fin 256) :
    (iblk m c 4 t : Vec Ideal S512x256 .f32) (ix2 r k) = A4 m c (ix2 (row t r) k) := by
  obtain ⟨e00, e01, e10, e11, e20, e21, e30, e31, e40, e41, e50, e51, e60, e61, e70, e71, e80, e81⟩ := idx_in t
  unfold iblk
  rw [View.read_apply]
  show V m c main_arg4 _ = m (c.tc.loc main_arg4) _
  rw [V_main_arg4]
  congr 1
  funext a
  apply Fin.ext
  match a with
  | ⟨0, _⟩ => show win0_4.index t 0 * 512 + 1 * r.val = 512 * (t.val / 4) + r.val; rw [e40]; omega
  | ⟨1, _⟩ => show win0_4.index t 1 * 256 + 1 * k.val = k.val; rw [e41]; omega

theorem V_v0 : @Eq (Vec Ideal S1024x1024 .bf16) (V m c main_v0) (truncf (F := Ideal) .bf16 (A5 m c : FVec Ideal S1024x1024 .f32) bitsLt_bf16_f32) := by
  unfold V
  after_results <;> rfl

theorem iblk5 (t : Fin cfg0.N) (k d : Fin 1024) :
    (iblk m c 5 t : Vec Ideal S1024x1024 .bf16) (ix2 k d) = A5 m c (ix2 k d) := by
  obtain ⟨e00, e01, e10, e11, e20, e21, e30, e31, e40, e41, e50, e51, e60, e61, e70, e71, e80, e81⟩ := idx_in t
  unfold iblk
  rw [View.read_apply]
  refine (congrFun (V_v0 m c) _).trans ?_
  show A5 m c _ = A5 m c _
  congr 1
  funext a
  apply Fin.ext
  match a with
  | ⟨0, _⟩ => show win0_5.index t 0 * 1024 + 1 * k.val = k.val; rw [e50]; omega
  | ⟨1, _⟩ => show win0_5.index t 1 * 1024 + 1 * d.val = d.val; rw [e51]; omega

theorem V_v1 : @Eq (Vec Ideal S1x1024 .f32) (V m c main_v1) (shapeCast S1x1024 (A6 m c) shapeCasts_S1024_S1x1024) := by
  unfold V
  after_results <;> rfl

theorem iblk6 (t : Fin cfg0.N) (k : Fin 1024) :
    (iblk m c 6 t : Vec Ideal S1x1024 .f32) (ix2 0 k) = A6 m c (ix1 k) := by
  obtain ⟨e00, e01, e10, e11, e20, e21, e30, e31, e40, e41, e50, e51, e60, e61, e70, e71, e80, e81⟩ := idx_in t
  unfold iblk
  rw [View.read_apply]
  refine (congrFun (V_v1 m c) _).trans ?_
  have e : ((cfg0.win 6).blk t).view.emb (ix2 (0 : Fin 1) k) = (ix2 (0 : Fin 1) k : S1x1024.Idx) := by
    funext a
    apply Fin.ext
    match a with
    | ⟨0, _⟩ => show win0_6.index t 0 * 1 + 1 * 0 = 0; rw [e60]
    | ⟨1, _⟩ => show win0_6.index t 1 * 1024 + 1 * k.val = k.val; rw [e61]; omega
  refine (congrArg (shapeCast S1x1024 (A6 m c) shapeCasts_S1024_S1x1024) e).trans ?_
  generalize A6 m c = x
  pointwise

theorem V_v2 : @Eq (Vec Ideal S1024x4096 .bf16) (V m c main_v2) (truncf (F := Ideal) .bf16 (A7 m c : FVec Ideal S1024x4096 .f32) bitsLt_bf16_f32) := by
  unfold V
  after_results <;> rfl

theorem iblk7 (t : Fin cfg0.N) (k f : Fin 1024) :
    (iblk m c 7 t : Vec Ideal S1024x1024 .bf16) (ix2 k f) = A7 m c (ix2 k ⟨1024 * (t.val % 4) + f.val, by omega⟩) := by
  obtain ⟨e00, e01, e10, e11, e20, e21, e30, e31, e40, e41, e50, e51, e60, e61, e70, e71, e80, e81⟩ := idx_in t
  unfold iblk
  rw [View.read_apply]
  refine (congrFun (V_v2 m c) _).trans ?_
  show A7 m c _ = A7 m c _
  congr 1
  funext a
  apply Fin.ext
  match a with
  | ⟨0, _⟩ => show win0_7.index t 0 * 1024 + 1 * k.val = k.val; rw [e70]; omega
  | ⟨1, _⟩ => show win0_7.index t 1 * 1024 + 1 * f.val = 1024 * (t.val % 4) + f.val; rw [e71]; omega

theorem V_v3 : @Eq (Vec Ideal S4096x1024 .bf16) (V m c main_v3) (truncf (F := Ideal) .bf16 (A8 m c : FVec Ideal S4096x1024 .f32) bitsLt_bf16_f32) := by
  unfold V
  after_results <;> rfl

theorem iblk8 (t : Fin cfg0.N) (f d : Fin 1024) :
    (iblk m c 8 t : Vec Ideal S1024x1024 .bf16) (ix2 f d) = A8 m c (ix2 ⟨1024 * (t.val % 4) + f.val, by omega⟩ d) := by
  obtain ⟨e00, e01, e10, e11, e20, e21, e30, e31, e40, e41, e50, e51, e60, e61, e70, e71, e80, e81⟩ := idx_in t
  unfold iblk
  rw [View.read_apply]
  refine (congrFun (V_v3 m c) _).trans ?_
  show A8 m c _ = A8 m c _
  congr 1
  funext a
  apply Fin.ext
  match a with
  | ⟨0, _⟩ => show win0_8.index t 0 * 1024 + 1 * f.val = 1024 * (t.val % 4) + f.val; rw [e80]; omega
  | ⟨1, _⟩ => show win0_8.index t 1 * 1024 + 1 * d.val = d.val; rw [e81]; omega

theorem wrows_apply (o : ℕ) (h : ∀ a, (![o, 0] : Fin 2 → Nat) a + S256x1024.size a ≤ S1024x1024.size a) (w : Vec Ideal S1024x1024 .bf16) (k : Fin 256) (d : Fin 1024)
    (ho : o + k.val < 1024) : wrows o h w (ix2 k d) = w (ix2 ⟨o + k.val, ho⟩ d) := by
  unfold wrows
  show w _ = w _
  congr 1
  funext a
  apply Fin.ext
  match a with
  | ⟨0, _⟩ => show o + 1 * k.val = o + k.val; omega
  | ⟨1, _⟩ => show 0 + 1 * d.val = d.val; omega

/-! ## The values of a point -/

/-- The residual stream of a tile whose blocks are rows of the arrays. -/
theorem resid_of (R : Fin 512 → Fin 16384) (y0 : Vec Ideal S512x1024 .f32) (y1 y2 y3 y4 : Vec Ideal S512x256 .f32) (y5 : Vec Ideal S1024x1024 .bf16)
    (h0 : ∀ r k, y0 (ix2 r k) = A0 m c (ix2 (R r) k)) (h1 : ∀ r k, y1 (ix2 r k) = A1 m c (ix2 (R r) k)) (h2 : ∀ r k, y2 (ix2 r k) = A2 m c (ix2 (R r) k))
    (h3 : ∀ r k, y3 (ix2 r k) = A3 m c (ix2 (R r) k)) (h4 : ∀ r k, y4 (ix2 r k) = A4 m c (ix2 (R r) k)) (h5 : ∀ k d, y5 (ix2 k d) = A5 m c (ix2 k d))
    (r : Fin 512) (d : Fin 1024) :
    resid (F := Ideal) y0 y1 y2 y3 y4 y5 (ix2 r d) = val_main_v2 (F := Ideal) (A0 m c) (A1 m c) (A2 m c) (A3 m c) (A4 m c) (A5 m c) (ix2 (R r) d) := by
  unfold resid
  rw [pay3_apply, v2_apply]
  have w0 : ∀ k : Fin 256, wrows 0 inb_S1024x1024_S256x1024_0_0 y5 (ix2 k d) = A5 m c (ix2 ⟨0 + k.val, by omega⟩ d) := fun k => (wrows_apply 0 _ y5 k d (by omega)).trans (h5 _ _)
  have w1 : ∀ k : Fin 256, wrows 256 inb_S1024x1024_S256x1024_256_0 y5 (ix2 k d) = A5 m c (ix2 ⟨256 + k.val, by omega⟩ d) := fun k => (wrows_apply 256 _ y5 k d (by omega)).trans (h5 _ _)
  have w2 : ∀ k : Fin 256, wrows 512 inb_S1024x1024_S256x1024_512_0 y5 (ix2 k d) = A5 m c (ix2 ⟨512 + k.val, by omega⟩ d) := fun k => (wrows_apply 512 _ y5 k d (by omega)).trans (h5 _ _)
  have w3 : ∀ k : Fin 256, wrows 768 inb_S1024x1024_S256x1024_768_0 y5 (ix2 k d) = A5 m c (ix2 ⟨768 + k.val, by omega⟩ d) := fun k => (wrows_apply 768 _ y5 k d (by omega)).trans (h5 _ _)
  simp only [h0, h1, h2, h3, h4, w0, w1, w2, w3]

/-- The residual stream of point `t`'s tile is the reference's. -/
theorem resid_apply (t : Fin cfg0.N) (r : Fin 512) (d : Fin 1024) :
    resid (F := Ideal) (iblk m c 0 t) (iblk m c 1 t) (iblk m c 2 t) (iblk m c 3 t) (iblk m c 4 t) (iblk m c 5 t) (ix2 r d) = val_main_v2 (F := Ideal) (A0 m c) (A1 m c) (A2 m c) (A3 m c) (A4 m c) (A5 m c) (ix2 (row t r) d) :=
  resid_of m c (row t) _ _ _ _ _ _ (iblk0 m c t) (iblk1 m c t) (iblk2 m c t) (iblk3 m c t) (iblk4 m c t) (iblk5 m c t) r d

/-- The normalised rows of a tile whose blocks are rows of the arrays. -/
theorem normed_of (R : Fin 512 → Fin 16384) (y0 : Vec Ideal S512x1024 .f32) (y1 y2 y3 y4 : Vec Ideal S512x256 .f32) (y5 : Vec Ideal S1024x1024 .bf16) (y6 : Vec Ideal S1x1024 .f32)
    (h : ∀ r d, resid (F := Ideal) y0 y1 y2 y3 y4 y5 (ix2 r d) = val_main_v2 (F := Ideal) (A0 m c) (A1 m c) (A2 m c) (A3 m c) (A4 m c) (A5 m c) (ix2 (R r) d))
    (h6 : ∀ k, y6 (ix2 0 k) = A6 m c (ix1 k)) (r : Fin 512) (k : Fin 1024) :
    normed (F := Ideal) y0 y1 y2 y3 y4 y5 y6 (ix2 r k) = val_main_v15 (F := Ideal) (A0 m c) (A1 m c) (A2 m c) (A3 m c) (A4 m c) (A5 m c) (A6 m c) (ix2 (R r) k) := by
  unfold normed
  rw [pay1_apply, pay6_apply, v15_apply, h6]
  unfold resid at h
  unfold resid
  simp only [h]

/-- The normalised rows of point `t`'s tile are the reference's. -/
theorem normed_apply (t : Fin cfg0.N) (r : Fin 512) (k : Fin 1024) :
    normed (F := Ideal) (iblk m c 0 t) (iblk m c 1 t) (iblk m c 2 t) (iblk m c 3 t) (iblk m c 4 t) (iblk m c 5 t) (iblk m c 6 t) (ix2 r k) = val_main_v15 (F := Ideal) (A0 m c) (A1 m c) (A2 m c) (A3 m c) (A4 m c) (A5 m c) (A6 m c) (ix2 (row t r) k) :=
  normed_of m c (row t) _ _ _ _ _ _ _ (resid_apply m c t) (iblk6 m c t) r k

/-- One chunk of the hidden layer's product, of a row and a column of the result. -/
def chunk (j : ℕ) (hj : j < 4) (R : Fin 16384) (d : Fin 1024) : EReal :=
  ∑ f : Fin 1024, val_main_v18 (F := Ideal) (A0 m c) (A1 m c) (A2 m c) (A3 m c) (A4 m c) (A5 m c) (A6 m c) (A7 m c) (ix2 R ⟨1024 * j + f.val, by omega⟩) * A8 m c (ix2 ⟨1024 * j + f.val, by omega⟩ d)

/-- A tile's chunk added to what is accumulated. -/
theorem step_of (j : ℕ) (hj : j < 4) (R : Fin 512 → Fin 16384) (r : Fin 512) (d : Fin 1024) (h : Vec Ideal S512x1024 .bf16) (a : Vec Ideal S512x1024 .f32) (y7 y8 : Vec Ideal S1024x1024 .bf16)
    (hh : ∀ k : Fin 1024, h (ix2 r k) = val_main_v15 (F := Ideal) (A0 m c) (A1 m c) (A2 m c) (A3 m c) (A4 m c) (A5 m c) (A6 m c) (ix2 (R r) k))
    (h7 : ∀ k f : Fin 1024, y7 (ix2 k f) = A7 m c (ix2 k ⟨1024 * j + f.val, by omega⟩)) (h8 : ∀ f d : Fin 1024, y8 (ix2 f d) = A8 m c (ix2 ⟨1024 * j + f.val, by omega⟩ d)) :
    k0_pay2 (F := Ideal) h y7 a y8 (ix2 r d) = (a (ix2 r d) + chunk m c j hj (R r) d : EReal) := by
  rw [pay2_apply]
  unfold chunk
  simp only [v18_apply, hh, h7, h8]

/-- A point adds its chunk to what is accumulated. -/
theorem step_apply (t : Fin cfg0.N) (r : Fin 512) (d : Fin 1024) (h : Vec Ideal S512x1024 .bf16) (a : Vec Ideal S512x1024 .f32)
    (hh : ∀ k : Fin 1024, h (ix2 r k) = val_main_v15 (F := Ideal) (A0 m c) (A1 m c) (A2 m c) (A3 m c) (A4 m c) (A5 m c) (A6 m c) (ix2 (row t r) k)) :
    k0_pay2 (F := Ideal) h (iblk m c 7 t) a (iblk m c 8 t) (ix2 r d) = (a (ix2 r d) + chunk m c (t.val % 4) (Nat.mod_lt _ (by decide)) (row t r) d : EReal) :=
  step_of m c _ _ (row t) r d h a _ _ hh (iblk7 m c t) (iblk8 m c t)

/-- After a point: the normalised rows held, and the accumulated value. -/
def Holds (t : Fin cfg0.N) (s : Fin 16384 → Fin 1024 → EReal) : Prop :=
  (∀ (r : Fin 512) (k : Fin 1024), ((outsAt0 m c t.val t.isLt).2.2 : Vec Ideal S512x1024 .bf16) (ix2 r k) = val_main_v15 (F := Ideal) (A0 m c) (A1 m c) (A2 m c) (A3 m c) (A4 m c) (A5 m c) (A6 m c) (ix2 (row t r) k))
  ∧ ∀ (r : Fin 512) (d : Fin 1024), ((outsAt0 m c t.val t.isLt).2.1 : Vec Ideal S512x1024 .f32) (ix2 r d) = s (row t r) d

/-- The first point of a tile. -/
theorem holds_A (t : Fin cfg0.N) (h0 : t.val % 4 = 0) :
    Holds m c t fun R d => val_main_v2 (F := Ideal) (A0 m c) (A1 m c) (A2 m c) (A3 m c) (A4 m c) (A5 m c) (ix2 R d) + chunk m c 0 (by decide) R d := by
  have h1 : ¬t.val % 4 = 3 := by omega
  refine ⟨fun r k => ?_, fun r d => ?_⟩
  · rw [outsAt0_A m c t h0 h1]
    dsimp only
    rw [sout0_A_1_eq]
    exact normed_apply m c t r k
  · rw [outsAt0_A m c t h0 h1]
    dsimp only
    rw [sout0_A_0_eq, step_apply m c t r d _ _ (normed_apply m c t r), resid_apply]
    simp only [h0]

/-- A later point of a tile but the last. -/
theorem holds_B (t p : Fin cfg0.N) (hp : p.val = t.val - 1) (h0 : ¬t.val % 4 = 0) (h1 : ¬t.val % 4 = 3) (s : Fin 16384 → Fin 1024 → EReal) (h : Holds m c p s) :
    Holds m c t fun R d => s R d + chunk m c (t.val % 4) (Nat.mod_lt _ (by decide)) R d := by
  have hr : ∀ r, row p r = row t r := fun r => Fin.ext (by show 512 * (p.val / 4) + r.val = 512 * (t.val / 4) + r.val; omega)
  obtain ⟨pv, pl⟩ := p
  dsimp only at hp
  subst hp
  obtain ⟨ha, hb⟩ := h
  simp only [hr] at ha hb
  refine ⟨fun r k => ?_, fun r d => ?_⟩
  · rw [outsAt0_B m c t h0 h1]
    dsimp only
    unfold sout0_B_1
    exact ha r k
  · rw [outsAt0_B m c t h0 h1]
    dsimp only
    rw [sout0_B_0_eq, step_apply m c t r d _ _ (ha r)]
    exact congrArg (· + _) (hb r d)

/-- The last point of a tile: what it stores in the result's block. -/
theorem out_C (t p : Fin cfg0.N) (hp : p.val = t.val - 1) (h1 : t.val % 4 = 3) (s : Fin 16384 → Fin 1024 → EReal) (h : Holds m c p s) (r : Fin 512) (d : Fin 1024) :
    ((outsAt0 m c t.val t.isLt).1 : Vec Ideal S512x1024 .f32) (ix2 r d) = (s (row t r) d + chunk m c 3 (by decide) (row t r) d : EReal) := by
  have h0 : ¬t.val % 4 = 0 := by omega
  have hr : ∀ r, row p r = row t r := fun r => Fin.ext (by show 512 * (p.val / 4) + r.val = 512 * (t.val / 4) + r.val; omega)
  obtain ⟨pv, pl⟩ := p
  dsimp only at hp
  subst hp
  obtain ⟨ha, hb⟩ := h
  simp only [hr] at ha hb
  rw [outsAt0_C m c t h0 h1]
  dsimp only
  rw [out0_C_9_eq, step_apply m c t r d _ _ (ha r)]
  simp only [h1]
  exact congrArg (· + _) (hb r d)

/-- What the last point of a tile stores is the reference's result. -/
theorem out_eq (t : Fin cfg0.N) (h3 : t.val % 4 = 3) (r : Fin 512) (d : Fin 1024) :
    ((outsAt0 m c t.val t.isLt).1 : Vec Ideal S512x1024 .f32) (ix2 r d) = val_main_v20 (F := Ideal) (A0 m c) (A1 m c) (A2 m c) (A3 m c) (A4 m c) (A5 m c) (A6 m c) (A7 m c) (A8 m c) (ix2 (row t r) d) := by
  have hl := t.isLt
  let t0 : Fin cfg0.N := ⟨t.val - 1 - 1 - 1, by omega⟩
  let t1 : Fin cfg0.N := ⟨t.val - 1 - 1, by omega⟩
  let t2 : Fin cfg0.N := ⟨t.val - 1, by omega⟩
  have e1 : t1.val % 4 = 1 := by show (t.val - 1 - 1) % 4 = 1; omega
  have e2 : t2.val % 4 = 2 := by show (t.val - 1) % 4 = 2; omega
  have g0 := holds_A m c t0 (by show (t.val - 1 - 1 - 1) % 4 = 0; omega)
  have g1 := holds_B m c t1 t0 rfl (by omega) (by omega) _ g0
  have g2 := holds_B m c t2 t1 rfl (by omega) (by omega) _ g1
  rw [out_C m c t t2 rfl h3 _ g2 r d, v20_apply]
  simp only [e1, e2]
  rfl

/-- THE RESULT: the array the pipeline leaves is the reference's. -/
theorem result_eq : (Value.G9 m c : Vec Ideal S16384x1024 .f32) = val_main_v20 (F := Ideal) (A0 m c) (A1 m c) (A2 m c) (A3 m c) (A4 m c) (A5 m c) (A6 m c) (A7 m c) (A8 m c) := by
  funext i
  have hi0 : (i 0).val < 16384 := (i 0).isLt
  have hi1 : (i 1).val < 1024 := (i 1).isLt
  have hp : Value.pt9Of i = 4 * ((i 0).val / 512) + 3 := by
    show 4 * (1 * ((i 0).val / 512 - 0) + 1 * ((i 1).val / 1024 - 0)) + 3 = _
    omega
  have hlt : Value.pt9Of i < cfg0.N := by rw [hp, show cfg0.N = 128 from N_0]; omega
  unfold Value.G9
  rw [dif_pos hlt, ← Value.outsAt0_sweep m c (Value.pt9Of i) hlt]
  have el : Value.loc9Of i = ix2 (⟨(i 0).val % 512, Nat.mod_lt _ (by decide)⟩ : Fin 512) (⟨(i 1).val % 1024, Nat.mod_lt _ (by decide)⟩ : Fin 1024) := by
    funext a
    match a with
    | ⟨0, _⟩ => rfl
    | ⟨1, _⟩ => rfl
  rw [el]
  refine (out_eq m c ⟨Value.pt9Of i, hlt⟩ (by show Value.pt9Of i % 4 = 3; omega) _ _).trans ?_
  congr 1
  funext a
  apply Fin.ext
  match a with
  | ⟨0, _⟩ => show 512 * (Value.pt9Of i / 4) + (i 0).val % 512 = (i 0).val; omega
  | ⟨1, _⟩ => show (i 1).val % 1024 = (i 1).val; omega

end Cert.Kernel2Ideal.Mlp

end
-- ==== Proof.Mlp.Claim.lean ====
/- The MLP's claims: its reference's frame, and the kernel's result at the ideal instance. -/
module

public import proofs.«01_k».proof.Proof.Mlp.Value
public import proofs.«01_k».proof.Proof.Gen.Reference2Ideal.Run
public import proofs.«01_k».proof.Defs
public import Idealize.ShloMosaic.Lib.Quiescent

@[expose] public section

noncomputable section

namespace Cert.Kernel2Ideal.Mlp

open Idealize.ShloMosaic Idealize.ShloMosaic.TcCoe Idealize.SL.Sem

/-- The reference's frame. -/
theorem frame_reference2 : Cert.quiescent_Reference2Ideal := by
  intro m g _
  exact (θ_run Cert.Reference2Ideal.defs _ _).mono (fun r h => ⟨fun c => (h c).2, Idealize.ShloMosaic.sem_eq_zero_of_no_sems (by decide) r.2⟩)
    (Cert.Reference2Ideal.Value.run (F := Ideal) m g)

/-- The kernel's result is the reference's, over the extended reals, for any arguments. -/
theorem algebraic2 : Cert.algebraic_Kernel2Ideal_Reference2Ideal := by
  intro m g m' g' _ hag
  refine ⟨fun c => Cert.Kernel2Ideal.Value.G9 m c, Cert.Kernel2Ideal.Value.run m g, ?_⟩
  refine (θ_run Cert.Reference2Ideal.defs _ _).mono (fun r h c => ⟨(h c).1.trans ?_, (h c).2⟩) (Cert.Reference2Ideal.Value.run (F := Ideal) m' g')
  obtain ⟨a0, a1, a2, a3, a4, a5, a6, a7, a8⟩ := hag c
  rw [Cert.Reference2Ideal.Read.val_main_v20_eq, a0, a1, a2, a3, a4, a5, a6, a7, a8]
  exact (result_eq m c).symm

end Cert.Kernel2Ideal.Mlp

end
-- ==== Proof.Proj.Payload.lean ====
/- The values the projection kernel's body computes, read at an index over the extended reals. -/
module

public import proofs.«01_k».proof.Proof.Gen.Kernel3Ideal.Skeleton
public import Idealize.ShloMosaic.Lib.Pointwise
public import Idealize.ShloMosaic.Lib.IdealHost

@[expose] public section

set_option maxRecDepth 16384

noncomputable section

namespace Cert.Kernel3Ideal.Proj

open Cert.Kernel3Ideal Cert.Kernel3Ideal.Gen Idealize.ShloMosaic Idealize.ShloMosaic.TcCoe Idealize.SL.Sem

/-- The logarithm of the logistic function, in its stable form. -/
def logsig (f : EReal) : EReal :=
  -(max (-f) 0 + Ideal.log1p (Ideal.exp (-(FloatOps.absf (F := Ideal) (φ := .f32) (-f) : EReal))))

/-- The normalised row. -/
theorem pay3_apply (x : Vec Ideal S512x1024 .f32) (g : Vec Ideal S1x1024 .f32) (r : Fin 512) (k : Fin 1024) :
    k0_pay3 (F := Ideal) x g (ix2 r k)
      = (x (ix2 r k) * Ideal.rsqrt (Ideal.div (∑ k : Fin 1024, x (ix2 r k) * x (ix2 r k)) (Ideal.ofBits .f32 0x44800000#32) + Ideal.ofBits .f32 0x358637BD#32) * g (ix2 0 k) : EReal) := by
  unfold k0_pay3
  pointwise

/-- The recurrence's columns of the projection. -/
theorem pay5_apply (x : Vec Ideal S512x1024 .f32) (g : Vec Ideal S1x1024 .f32) (w : Vec Ideal S1024x1024 .bf16) (r : Fin 512) (d : Fin 1024) :
    k0_pay5 (F := Ideal) x g w (ix2 r d) = (∑ k : Fin 1024, k0_pay3 (F := Ideal) x g (ix2 r k) * w (ix2 k d) : EReal) := by
  unfold k0_pay5 k0_pay4
  generalize k0_pay3 (F := Ideal) x g = v
  pointwise

theorem sel01 (a b : Ideal .f32) : Scalar.select (IntOp.cmpi .eq 0#32 1#32) a b = b := rfl
theorem sel02 (a b : Ideal .f32) : Scalar.select (IntOp.cmpi .eq 0#32 2#32) a b = b := rfl
theorem sel03 (a b : Ideal .f32) : Scalar.select (IntOp.cmpi .eq 0#32 3#32) a b = b := rfl
theorem sel12 (a b : Ideal .f32) : Scalar.select (IntOp.cmpi .eq 1#32 2#32) a b = b := rfl
theorem sel13 (a b : Ideal .f32) : Scalar.select (IntOp.cmpi .eq 1#32 3#32) a b = b := rfl
theorem sel23 (a b : Ideal .f32) : Scalar.select (IntOp.cmpi .eq 2#32 3#32) a b = b := rfl

/-- The forget gates' logarithms of a row. -/
theorem pay22_apply (h : FVec Ideal S512x1024 .f32) (w0 w1 w2 w3 : Vec Ideal S1x1024 .f32) (b : Vec Ideal S1x128 .f32) (r : Fin 512) (j : Fin 4) :
    k0_pay22 (F := Ideal) h (iota .tc S1x128 32 [1] iota_S1x128_d1_w32) (k0_pay18 h w0 w1) k0_pay19 (k0_pay20 w2) w3 b (ix2 r j)
      = logsig ((∑ k : Fin 1024, h (ix2 r k) * (![w0, w1, w2, w3] j) (ix2 0 k)) + b (ix2 0 ⟨j.val, by omega⟩)) := by
  unfold k0_pay22 k0_pay21 k0_pay18 k0_pay19 k0_pay20 logsig
  fin_cases j
  all_goals
    pointwise
  all_goals
    simp only [sel12, sel13, sel23, sel01, sel02, sel03, zero_sub, Ideal.log1p]

end Cert.Kernel3Ideal.Proj

end
-- ==== Proof.Proj.Body.lean ====
/- What the projection kernel's body leaves in its recurrence columns and its forget gates, as the values it computes of
   the blocks it reads. -/
module

public import proofs.«01_k».proof.Proof.Proj.Payload
public import proofs.«01_k».proof.Proof.Gen.Kernel3Ideal.Value
public import Idealize.ShloMosaic.Lib.Tactic

@[expose] public section

set_option maxRecDepth 16384

noncomputable section

namespace Cert.Kernel3Ideal.Proj

open Cert.Kernel3Ideal Cert.Kernel3Ideal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- A row of the forget gates' weights. -/
abbrev frow (o : ℕ) (h : ∀ a, (![o, 0] : Fin 2 → Nat) a + S1x1024.size a ≤ S8x1024.size a) (w : Vec F S8x1024 .f32) : Vec F S1x1024 .f32 :=
  View.ld w (Rect.unit (s := S8x1024) ![o, 0] S1x1024.size h)

/-- The forget gates' logarithms of a row tile. -/
abbrev gates (x0 : Vec F S512x1024 .f32) (x1 : Vec F S1x1024 .f32) (x6 : Vec F S8x1024 .f32) (x9 : Vec F S1x128 .f32) : Vec F S512x4 .f32 :=
  k0_pay22 (k0_pay3 x0 x1) (iota .tc S1x128 32 [1] iota_S1x128_d1_w32)
    (k0_pay18 (k0_pay3 x0 x1) (frow 0 inb_S8x1024_S1x1024_0_0 x6) (frow 1 inb_S8x1024_S1x1024_1_0 x6)) k0_pay19
    (k0_pay20 (frow 2 inb_S8x1024_S1x1024_2_0 x6)) (frow 3 inb_S8x1024_S1x1024_3_0 x6) x9

theorem out0_A_10_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x768 .bf16) (harg4 : arg4.IsWhole) (arg5 : Memref sig .tc .vmem S1024x768 .bf16) (harg5 : arg5.IsWhole) (arg6 : Memref sig .tc .vmem S1024x768 .bf16) (harg6 : arg6.IsWhole) (arg7 : Memref sig .tc .vmem S8x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S512x1024 .f32) (harg11 : arg11.IsWhole) (arg12 : Memref sig .tc .vmem S512x768 .f32) (harg12 : arg12.IsWhole) (arg13 : Memref sig .tc .vmem S512x1536 .f32) (harg13 : arg13.IsWhole) (arg14 : Memref sig .tc .vmem S512x4 .f32) (harg14 : arg14.IsWhole) (arg15 : Memref sig .tc .vmem S512x4 .f32) (harg15 : arg15.IsWhole) (arg16 : Memref sig .tc .vmem S1x2x256 .f32) (harg16 : arg16.IsWhole) (arg17 : Memref sig .tc .vmem S1x128 .f32) (harg17 : arg17.IsWhole) (hc0 : cond0_0 i)
    (x0 : Vec F S512x1024 .f32) (x1 : Vec F S1x1024 .f32) (x2 : Vec F S1024x1024 .bf16) (x3 : Vec F S1024x768 .bf16) (x4 : Vec F S1024x768 .bf16) (x5 : Vec F S1024x768 .bf16) (x6 : Vec F S8x1024 .f32) (x7 : Vec F S1x512 .f32) (x8 : Vec F S1x512 .f32) (x9 : Vec F S1x128 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = k0_pay5 x0 x1 x2 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  (try sl_unfold_words)
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1024x1024) hz, View.ld_unit_zero (S := S1x1024) hz, View.ld_unit_zero (S := S1x128) hz, shapeCast_self]

theorem out0_A_13_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x768 .bf16) (harg4 : arg4.IsWhole) (arg5 : Memref sig .tc .vmem S1024x768 .bf16) (harg5 : arg5.IsWhole) (arg6 : Memref sig .tc .vmem S1024x768 .bf16) (harg6 : arg6.IsWhole) (arg7 : Memref sig .tc .vmem S8x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S512x1024 .f32) (harg11 : arg11.IsWhole) (arg12 : Memref sig .tc .vmem S512x768 .f32) (harg12 : arg12.IsWhole) (arg13 : Memref sig .tc .vmem S512x1536 .f32) (harg13 : arg13.IsWhole) (arg14 : Memref sig .tc .vmem S512x4 .f32) (harg14 : arg14.IsWhole) (arg15 : Memref sig .tc .vmem S512x4 .f32) (harg15 : arg15.IsWhole) (arg16 : Memref sig .tc .vmem S1x2x256 .f32) (harg16 : arg16.IsWhole) (arg17 : Memref sig .tc .vmem S1x128 .f32) (harg17 : arg17.IsWhole) (hc0 : cond0_0 i)
    (x0 : Vec F S512x1024 .f32) (x1 : Vec F S1x1024 .f32) (x2 : Vec F S1024x1024 .bf16) (x3 : Vec F S1024x768 .bf16) (x4 : Vec F S1024x768 .bf16) (x5 : Vec F S1024x768 .bf16) (x6 : Vec F S8x1024 .f32) (x7 : Vec F S1x512 .f32) (x8 : Vec F S1x512 .f32) (x9 : Vec F S1x128 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = gates x0 x1 x6 x9 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A
  dsimp only
  (try sl_unfold_words)
  rw [View.canon_unit_zero hz]
  unfold gates frow
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1024x1024) hz, View.ld_unit_zero (S := S1x1024) hz, View.ld_unit_zero (S := S1x128) hz, shapeCast_self]

theorem out0_B_10_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x768 .bf16) (harg4 : arg4.IsWhole) (arg5 : Memref sig .tc .vmem S1024x768 .bf16) (harg5 : arg5.IsWhole) (arg6 : Memref sig .tc .vmem S1024x768 .bf16) (harg6 : arg6.IsWhole) (arg7 : Memref sig .tc .vmem S8x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S512x1024 .f32) (harg11 : arg11.IsWhole) (arg12 : Memref sig .tc .vmem S512x768 .f32) (harg12 : arg12.IsWhole) (arg13 : Memref sig .tc .vmem S512x1536 .f32) (harg13 : arg13.IsWhole) (arg14 : Memref sig .tc .vmem S512x4 .f32) (harg14 : arg14.IsWhole) (arg15 : Memref sig .tc .vmem S512x4 .f32) (harg15 : arg15.IsWhole) (arg16 : Memref sig .tc .vmem S1x2x256 .f32) (harg16 : arg16.IsWhole) (arg17 : Memref sig .tc .vmem S1x128 .f32) (harg17 : arg17.IsWhole) (hc0 : ¬cond0_0 i)
    (x0 : Vec F S512x1024 .f32) (x1 : Vec F S1x1024 .f32) (x2 : Vec F S1024x1024 .bf16) (x3 : Vec F S1024x768 .bf16) (x4 : Vec F S1024x768 .bf16) (x5 : Vec F S1024x768 .bf16) (x6 : Vec F S8x1024 .f32) (x7 : Vec F S1x512 .f32) (x8 : Vec F S1x512 .f32) (x9 : Vec F S1x128 .f32) (xs0 : Vec F S1x128 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 = k0_pay5 x0 x1 x2 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0)]
  unfold kernelRun0_B
  dsimp only
  (try sl_unfold_words)
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1024x1024) hz, View.ld_unit_zero (S := S1x1024) hz, View.ld_unit_zero (S := S1x128) hz, shapeCast_self]

theorem out0_B_13_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x768 .bf16) (harg4 : arg4.IsWhole) (arg5 : Memref sig .tc .vmem S1024x768 .bf16) (harg5 : arg5.IsWhole) (arg6 : Memref sig .tc .vmem S1024x768 .bf16) (harg6 : arg6.IsWhole) (arg7 : Memref sig .tc .vmem S8x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S512x1024 .f32) (harg11 : arg11.IsWhole) (arg12 : Memref sig .tc .vmem S512x768 .f32) (harg12 : arg12.IsWhole) (arg13 : Memref sig .tc .vmem S512x1536 .f32) (harg13 : arg13.IsWhole) (arg14 : Memref sig .tc .vmem S512x4 .f32) (harg14 : arg14.IsWhole) (arg15 : Memref sig .tc .vmem S512x4 .f32) (harg15 : arg15.IsWhole) (arg16 : Memref sig .tc .vmem S1x2x256 .f32) (harg16 : arg16.IsWhole) (arg17 : Memref sig .tc .vmem S1x128 .f32) (harg17 : arg17.IsWhole) (hc0 : ¬cond0_0 i)
    (x0 : Vec F S512x1024 .f32) (x1 : Vec F S1x1024 .f32) (x2 : Vec F S1024x1024 .bf16) (x3 : Vec F S1024x768 .bf16) (x4 : Vec F S1024x768 .bf16) (x5 : Vec F S1024x768 .bf16) (x6 : Vec F S8x1024 .f32) (x7 : Vec F S1x512 .f32) (x8 : Vec F S1x512 .f32) (x9 : Vec F S1x128 .f32) (xs0 : Vec F S1x128 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 = gates x0 x1 x6 x9 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0)]
  unfold kernelRun0_B
  dsimp only
  (try sl_unfold_words)
  rw [View.canon_unit_zero hz]
  unfold gates frow
  simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1024x1024) hz, View.ld_unit_zero (S := S1x1024) hz, View.ld_unit_zero (S := S1x128) hz, shapeCast_self]

end Cert.Kernel3Ideal.Proj

end
-- ==== Proof.Proj.Ref.lean ====
/- The projection's reference, read at an index over the extended reals. -/
module

public import proofs.«01_k».proof.Proof.Gen.Reference3Ideal.Read
public import proofs.«01_k».proof.Proof.Proj.Payload
public import Idealize.ShloMosaic.Lib.Pointwise
public import Idealize.ShloMosaic.Lib.IdealHost

@[expose] public section

set_option maxRecDepth 16384

noncomputable section

namespace Cert.Reference3Ideal.Proj

open Cert.Reference3Ideal Cert.Reference3Ideal.Gen Cert.Reference3Ideal.Read Idealize.ShloMosaic Idealize.ShloMosaic.TcCoe Idealize.SL.Sem

variable (x0 : (⟨S16384x1024, .f32⟩ : BufTy).Contents (Elt Ideal)) (x1 : (⟨S1024, .f32⟩ : BufTy).Contents (Elt Ideal))
  (x2 : (⟨S1024x3332, .f32⟩ : BufTy).Contents (Elt Ideal)) (x5 : (⟨S4, .f32⟩ : BufTy).Contents (Elt Ideal))

/-- The normalised row. -/
theorem v12_apply (r : Fin 16384) (k : Fin 1024) :
    val_main_v12 (F := Ideal) x0 x1 (ix2 r k)
      = (x0 (ix2 r k) * Ideal.rsqrt (Ideal.div (∑ k : Fin 1024, x0 (ix2 r k) * x0 (ix2 r k)) (Ideal.ofBits .f32 0x44800000#32) + Ideal.ofBits .f32 0x358637BD#32) * x1 (ix1 k) : EReal) := by
  unfold val_main_v12 val_main_v11 val_main_v10 val_main_v9 val_main_v8 val_main_v7 val_main_v6 val_main_v5 val_main_v4 val_main_v3 val_main_v2 val_main_v1 val_main_v0 val_main_cst val_main_cst_0 val_main_cst_1
  pointwise

/-- A column of the projection. -/
theorem v13_apply (r : Fin 16384) (d : Fin 3332) :
    val_main_v13 (F := Ideal) x0 x1 x2 (ix2 r d) = (∑ k : Fin 1024, val_main_v12 (F := Ideal) x0 x1 (ix2 r k) * x2 (ix2 k d) : EReal) := by
  unfold val_main_v13
  generalize val_main_v12 (F := Ideal) x0 x1 = v
  pointwise

/-- The recurrence's columns are the projection's first. -/
theorem v19_apply (r : Fin 16384) (d : Fin 1024) :
    val_main_v19 (F := Ideal) x0 x1 x2 (ix2 r d) = (∑ k : Fin 1024, val_main_v12 (F := Ideal) x0 x1 (ix2 r k) * x2 (ix2 k ⟨d.val, by omega⟩) : EReal) := by
  have e : idx_main_v19 (ix2 r d) = ix2 r (⟨d.val, by omega⟩ : Fin 3332) := by
    funext a
    match a with
    | ⟨0, _⟩ => rfl
    | ⟨1, _⟩ => rfl
  rw [val_main_v19_apply, e, v13_apply]

/-- The forget gates' logarithms. -/
theorem v18_apply (r : Fin 16384) (j : Fin 4) :
    val_main_v18 (F := Ideal) x0 x1 x2 x5 (ix2 r j)
      = Cert.Kernel3Ideal.Proj.logsig ((∑ k : Fin 1024, val_main_v12 (F := Ideal) x0 x1 (ix2 r k) * x2 (ix2 k ⟨3328 + j.val, by omega⟩)) + x5 (ix1 j)) := by
  have h : val_main_v17 (F := Ideal) x0 x1 x2 x5 (ix2 r j) = ((∑ k : Fin 1024, val_main_v12 (F := Ideal) x0 x1 (ix2 r k) * x2 (ix2 k ⟨3328 + j.val, by omega⟩)) + x5 (ix1 j) : EReal) := by
    have e : idx_main_v14 (ix2 r j) = ix2 r (⟨3328 + j.val, by omega⟩ : Fin 3332) := by
      funext a
      match a with
      | ⟨0, _⟩ => rfl
      | ⟨1, _⟩ => rfl
    have eb : val_main_v16 (F := Ideal) x5 (ix2 r j) = x5 (ix1 j) := by
      unfold val_main_v16 val_main_v15
      pointwise
    rw [val_main_v17_apply, val_main_v14_apply, e, v13_apply, eb]
    rfl
  rw [← h]
  unfold val_main_v18 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0 Cert.Kernel3Ideal.Proj.logsig
  generalize val_main_v17 (F := Ideal) x0 x1 x2 x5 = v
  pointwise
  rw [if_neg (not_not.mpr rfl)]

end Cert.Reference3Ideal.Proj

end
-- ==== Proof.Proj.Value.lean ====
/- What the projection's pipeline leaves in its recurrence columns and its forget gates: the reference's. -/
module

public import proofs.«01_k».proof.Proof.Proj.Body
public import proofs.«01_k».proof.Proof.Proj.Payload
public import proofs.«01_k».proof.Proof.Proj.Ref
public import proofs.«01_k».proof.Proof.Gen.Kernel3Ideal.Value
public import Idealize.ShloMosaic.Lib.Pointwise

@[expose] public section

set_option maxRecDepth 16384

noncomputable section

namespace Cert.Kernel3Ideal.Proj

open Cert.Kernel3Ideal Cert.Kernel3Ideal.Gen Idealize.ShloMosaic Idealize.ShloMosaic.TcCoe Idealize.SL.Sem
open Cert.Reference3Ideal.Read Cert.Reference3Ideal.Proj

variable (m : (ℓ : Loc nD τ sig) → Buf (Elt Ideal) ℓ) (c : Dev nD)

/-- The argument arrays. -/
abbrev A0 : Vec Ideal S16384x1024 .f32 := m ((c : Thread nD τ).loc main_arg0)
abbrev A1 : Vec Ideal S1024 .f32 := m ((c : Thread nD τ).loc main_arg1)
abbrev A2 : Vec Ideal S1024x3332 .f32 := m ((c : Thread nD τ).loc main_arg2)
abbrev A5 : Vec Ideal S4 .f32 := m ((c : Thread nD τ).loc main_arg5)

/-- The array's row that a row of point `t`'s tile is. -/
abbrev row (t : Fin cfg0.N) (r : Fin 512) : Fin 16384 :=
  ⟨512 * t.val + r.val, by have h : t.val < 32 := lt_of_lt_of_eq t.isLt N_0; omega⟩

/-! ## The blocks the windows read -/

theorem idx_in : ∀ t : Fin cfg0.N, win0_0.index t 0 = t.val ∧ win0_0.index t 1 = 0 ∧ win0_1.index t 0 = 0 ∧ win0_1.index t 1 = 0 ∧ win0_2.index t 0 = 0 ∧ win0_2.index t 1 = 0 ∧ win0_6.index t 0 = 0 ∧ win0_6.index t 1 = 0 ∧ win0_9.index t 0 = 0 ∧ win0_9.index t 1 = 0 :=
  (by decide +kernel : ∀ t : Fin grid0.N, _)

theorem iblk0 (t : Fin cfg0.N) (r : Fin 512) (k : Fin 1024) :
    (iblk m c 0 t : Vec Ideal S512x1024 .f32) (ix2 r k) = A0 m c (ix2 (row t r) k) := by
  obtain ⟨e00, e01, -⟩ := idx_in t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * t.val + r.val; rw [e00]; omega
  | ⟨1, _⟩ => show win0_0.index t 1 * 1024 + 1 * k.val = k.val; rw [e01]; omega

theorem V_v0 : @Eq (Vec Ideal S1x1024 .f32) (V m c main_v0) (shapeCast S1x1024 (A1 m c) shapeCasts_S1024_S1x1024) := by
  unfold V
  simp only [hostOps0, hostOps0_1, hostOps0_2, hostOps0_3, List.flatten_cons, List.flatten_nil, List.append_nil, List.cons_append, List.nil_append]
  after_results <;> rfl

theorem iblk1 (t : Fin cfg0.N) (k : Fin 1024) :
    (iblk m c 1 t : Vec Ideal S1x1024 .f32) (ix2 0 k) = A1 m c (ix1 k) := by
  obtain ⟨-, -, e10, e11, -⟩ := idx_in t
  unfold iblk
  rw [View.read_apply]
  refine (congrFun (V_v0 m c) _).trans ?_
  have e : ((cfg0.win 1).blk t).view.emb (ix2 (0 : Fin 1) k) = (ix2 (0 : Fin 1) k : S1x1024.Idx) := by
    funext a
    apply Fin.ext
    match a with
    | ⟨0, _⟩ => show win0_1.index t 0 * 1 + 1 * 0 = 0; rw [e10]
    | ⟨1, _⟩ => show win0_1.index t 1 * 1024 + 1 * k.val = k.val; rw [e11]; omega
  refine (congrArg (shapeCast S1x1024 (A1 m c) shapeCasts_S1024_S1x1024) e).trans ?_
  generalize A1 m c = x
  pointwise

theorem V_v2 : @Eq (Vec Ideal S1024x1024 .bf16) (V m c main_v2) (truncf (F := Ideal) .bf16 (extractStridedSlice S1024x1024 ![0, 0] (A2 m c : FVec Ideal S1024x3332 .f32) slices_S1024x3332_S1024x1024_0_0) bitsLt_bf16_f32) := by
  unfold V
  simp only [hostOps0, hostOps0_1, hostOps0_2, hostOps0_3, List.flatten_cons, List.flatten_nil, List.append_nil, List.cons_append, List.nil_append]
  after_results <;> rfl

theorem cols_apply (x : FVec Ideal S1024x3332 .f32) (k d : Fin 1024) :
    truncf (F := Ideal) .bf16 (extractStridedSlice S1024x1024 ![0, 0] x slices_S1024x3332_S1024x1024_0_0) bitsLt_bf16_f32 (ix2 k d) = x (ix2 k (⟨d.val, by omega⟩ : Fin 3332)) := by
  refine (extractStridedSlice_apply ![0, 0] x slices_S1024x3332_S1024x1024_0_0 (ix2 k d) (ix2 k (⟨d.val, by omega⟩ : Fin 3332)) (fun a => ?_))
  match a with
  | ⟨0, _⟩ => show k.val = 0 + k.val; omega
  | ⟨1, _⟩ => show d.val = 0 + d.val; omega

theorem iblk2 (t : Fin cfg0.N) (k d : Fin 1024) :
    (iblk m c 2 t : Vec Ideal S1024x1024 .bf16) (ix2 k d) = A2 m c (ix2 k (⟨d.val, by omega⟩ : Fin 3332)) := by
  obtain ⟨-, -, -, -, e20, e21, -⟩ := idx_in t
  unfold iblk
  rw [View.read_apply]
  refine (congrFun (V_v2 m c) _).trans ?_
  have e : ((cfg0.win 2).blk t).view.emb (ix2 k d) = (ix2 k d : S1024x1024.Idx) := by
    funext a
    apply Fin.ext
    match a with
    | ⟨0, _⟩ => show win0_2.index t 0 * 1024 + 1 * k.val = k.val; rw [e20]; omega
    | ⟨1, _⟩ => show win0_2.index t 1 * 1024 + 1 * d.val = d.val; rw [e21]; omega
  refine (congrArg (truncf (F := Ideal) .bf16 (extractStridedSlice S1024x1024 ![0, 0] (A2 m c : FVec Ideal S1024x3332 .f32) slices_S1024x3332_S1024x1024_0_0) bitsLt_bf16_f32) e).trans ?_
  exact cols_apply _ k d

/-- The forget gates' weights as the kernel takes them: transposed, and padded to eight rows. -/
abbrev gateW (x : FVec Ideal S1024x3332 .f32) : FVec Ideal S8x1024 .f32 :=
  pad S8x1024 ![0, 0] ![4, 0] ![0, 0] (transpose S4x1024 [1, 0] (extractStridedSlice S1024x4 ![0, 3328] x slices_S1024x3332_S1024x4_0_3328) transposes_S1024x4_S4x1024_1_0)
    (sitofp (F := Ideal) .f32 (constantI S_ 32 0#32)) pads_S4x1024_S8x1024_040_000 h_S_

/-- The forget gates' offsets as the kernel takes them: padded to a row of lanes. -/
abbrev gateB (x : FVec Ideal S4 .f32) : FVec Ideal S1x128 .f32 :=
  pad S1x128 ![0, 0] ![0, 124] ![0, 0] (shapeCast S1x4 x shapeCasts_S4_S1x4)
    (sitofp (F := Ideal) .f32 (constantI S_ 32 0#32)) pads_S1x4_S1x128_000_01240 h_S_

theorem V_v11 : @Eq (Vec Ideal S8x1024 .f32) (V m c main_v11) (gateW (A2 m c)) := by
  unfold V
  simp only [hostOps0, hostOps0_1, hostOps0_2, hostOps0_3, List.flatten_cons, List.flatten_nil, List.append_nil, List.cons_append, List.nil_append]
  after_results <;> rfl

theorem V_v15 : @Eq (Vec Ideal S1x128 .f32) (V m c main_v15) (gateB (A5 m c)) := by
  unfold V
  simp only [hostOps0, hostOps0_1, hostOps0_2, hostOps0_3, List.flatten_cons, List.flatten_nil, List.append_nil, List.cons_append, List.nil_append]
  after_results <;> rfl

theorem gateW_apply (x : FVec Ideal S1024x3332 .f32) (j : Fin 4) (k : Fin 1024) :
    gateW x (ix2 (⟨j.val, by omega⟩ : Fin 8) k) = x (ix2 k (⟨3328 + j.val, by omega⟩ : Fin 3332)) := by
  have h : ∀ i : S4x1024.Idx, i = ix2 j k →
      transpose S4x1024 [1, 0] (extractStridedSlice S1024x4 ![0, 3328] x slices_S1024x3332_S1024x4_0_3328) transposes_S1024x4_S4x1024_1_0 i = x (ix2 k (⟨3328 + j.val, by omega⟩ : Fin 3332)) := by
    rintro i rfl
    pointwise
  unfold gateW pad
  rw [dif_pos (fun a => match a with
    | ⟨0, _⟩ => (by
        show 0 ≤ j.val ∧ (j.val - 0) % (0 + 1) = 0 ∧ (j.val - 0) / (0 + 1) < 4
        omega)
    | ⟨1, _⟩ => (by
        show 0 ≤ k.val ∧ (k.val - 0) % (0 + 1) = 0 ∧ (k.val - 0) / (0 + 1) < 1024
        omega))]
  refine h _ ?_
  funext a
  apply Fin.ext
  match a with
  | ⟨0, _⟩ => show (j.val - 0) / (0 + 1) = j.val; omega
  | ⟨1, _⟩ => show (k.val - 0) / (0 + 1) = k.val; omega

theorem gateB_apply (x : FVec Ideal S4 .f32) (j : Fin 4) :
    gateB x (ix2 0 (⟨j.val, by omega⟩ : Fin 128)) = x (ix1 j) := by
  have h : ∀ i : S1x4.Idx, i = ix2 0 j → shapeCast S1x4 x shapeCasts_S4_S1x4 i = x (ix1 j) := by
    rintro i rfl
    pointwise
  unfold gateB pad
  rw [dif_pos (fun a => match a with
    | ⟨0, _⟩ => (by
        show 0 ≤ 0 ∧ (0 - 0) % (0 + 1) = 0 ∧ (0 - 0) / (0 + 1) < 1
        omega)
    | ⟨1, _⟩ => (by
        show 0 ≤ j.val ∧ (j.val - 0) % (0 + 1) = 0 ∧ (j.val - 0) / (0 + 1) < 4
        omega))]
  refine h _ ?_
  funext a
  apply Fin.ext
  match a with
  | ⟨0, _⟩ => show (0 - 0) / (0 + 1) = 0; omega
  | ⟨1, _⟩ => show (j.val - 0) / (0 + 1) = j.val; omega

theorem iblk6 (t : Fin cfg0.N) (j : Fin 4) (k : Fin 1024) :
    (iblk m c 6 t : Vec Ideal S8x1024 .f32) (ix2 (⟨j.val, by omega⟩ : Fin 8) k) = A2 m c (ix2 k (⟨3328 + j.val, by omega⟩ : Fin 3332)) := by
  obtain ⟨-, -, -, -, -, -, e60, e61, -⟩ := idx_in t
  unfold iblk
  rw [View.read_apply]
  refine (congrFun (V_v11 m c) _).trans ?_
  have e : ((cfg0.win 6).blk t).view.emb (ix2 (⟨j.val, by omega⟩ : Fin 8) k) = (ix2 (⟨j.val, by omega⟩ : Fin 8) k : S8x1024.Idx) := by
    funext a
    apply Fin.ext
    match a with
    | ⟨0, _⟩ => show win0_6.index t 0 * 8 + 1 * j.val = j.val; rw [e60]; omega
    | ⟨1, _⟩ => show win0_6.index t 1 * 1024 + 1 * k.val = k.val; rw [e61]; omega
  refine (congrArg (gateW (A2 m c)) e).trans ?_
  exact gateW_apply _ j k

theorem iblk9 (t : Fin cfg0.N) (j : Fin 4) :
    (iblk m c 9 t : Vec Ideal S1x128 .f32) (ix2 0 (⟨j.val, by omega⟩ : Fin 128)) = A5 m c (ix1 j) := by
  obtain ⟨-, -, -, -, -, -, -, -, e90, e91⟩ := idx_in t
  unfold iblk
  rw [View.read_apply]
  refine (congrFun (V_v15 m c) _).trans ?_
  have e : ((cfg0.win 9).blk t).view.emb (ix2 (0 : Fin 1) (⟨j.val, by omega⟩ : Fin 128)) = (ix2 (0 : Fin 1) (⟨j.val, by omega⟩ : Fin 128) : S1x128.Idx) := by
    funext a
    apply Fin.ext
    match a with
    | ⟨0, _⟩ => show win0_9.index t 0 * 1 + 1 * 0 = 0; rw [e90]
    | ⟨1, _⟩ => show win0_9.index t 1 * 128 + 1 * j.val = j.val; rw [e91]; omega
  refine (congrArg (gateB (A5 m c)) e).trans ?_
  exact gateB_apply _ j

theorem frow_apply (o : ℕ) (h : ∀ a, (![o, 0] : Fin 2 → Nat) a + S1x1024.size a ≤ S8x1024.size a) (w : Vec Ideal S8x1024 .f32) (k : Fin 1024)
    (ho : o < 8) : frow o h w (ix2 0 k) = w (ix2 ⟨o, ho⟩ k) := by
  unfold frow
  show w _ = w _
  congr 1
  funext a
  apply Fin.ext
  match a with
  | ⟨0, _⟩ => show o + 1 * 0 = o; omega
  | ⟨1, _⟩ => show 0 + 1 * k.val = k.val; omega

/-! ## The values of a point -/

/-- The normalised rows of a tile whose blocks are rows of the arrays. -/
theorem norm_of (R : Fin 512 → Fin 16384) (y0 : Vec Ideal S512x1024 .f32) (y1 : Vec Ideal S1x1024 .f32)
    (h0 : ∀ r k, y0 (ix2 r k) = A0 m c (ix2 (R r) k)) (h1 : ∀ k, y1 (ix2 0 k) = A1 m c (ix1 k)) (r : Fin 512) (k : Fin 1024) :
    k0_pay3 (F := Ideal) y0 y1 (ix2 r k) = val_main_v12 (F := Ideal) (A0 m c) (A1 m c) (ix2 (R r) k) := by
  rw [pay3_apply, v12_apply]
  simp only [h0, h1]

/-- The recurrence's columns of such a tile. -/
theorem cols_of (R : Fin 512 → Fin 16384) (y0 : Vec Ideal S512x1024 .f32) (y1 : Vec Ideal S1x1024 .f32) (y2 : Vec Ideal S1024x1024 .bf16)
    (h0 : ∀ r k, y0 (ix2 r k) = A0 m c (ix2 (R r) k)) (h1 : ∀ k, y1 (ix2 0 k) = A1 m c (ix1 k))
    (h2 : ∀ k d : Fin 1024, y2 (ix2 k d) = A2 m c (ix2 k (⟨d.val, by omega⟩ : Fin 3332))) (r : Fin 512) (d : Fin 1024) :
    k0_pay5 (F := Ideal) y0 y1 y2 (ix2 r d) = val_main_v19 (F := Ideal) (A0 m c) (A1 m c) (A2 m c) (ix2 (R r) d) := by
  rw [pay5_apply, v19_apply]
  simp only [norm_of m c R y0 y1 h0 h1, h2]

/-- The forget gates' logarithms of such a tile. -/
theorem gates_of (R : Fin 512 → Fin 16384) (y0 : Vec Ideal S512x1024 .f32) (y1 : Vec Ideal S1x1024 .f32) (y6 : Vec Ideal S8x1024 .f32) (y9 : Vec Ideal S1x128 .f32)
    (h0 : ∀ r k, y0 (ix2 r k) = A0 m c (ix2 (R r) k)) (h1 : ∀ k, y1 (ix2 0 k) = A1 m c (ix1 k))
    (h6 : ∀ (j : Fin 4) (k : Fin 1024), y6 (ix2 (⟨j.val, by omega⟩ : Fin 8) k) = A2 m c (ix2 k (⟨3328 + j.val, by omega⟩ : Fin 3332)))
    (h9 : ∀ j : Fin 4, y9 (ix2 0 (⟨j.val, by omega⟩ : Fin 128)) = A5 m c (ix1 j)) (r : Fin 512) (j : Fin 4) :
    gates (F := Ideal) y0 y1 y6 y9 (ix2 r j) = val_main_v18 (F := Ideal) (A0 m c) (A1 m c) (A2 m c) (A5 m c) (ix2 (R r) j) := by
  have hw : ∀ k : Fin 1024, ((![frow 0 inb_S8x1024_S1x1024_0_0 y6, frow 1 inb_S8x1024_S1x1024_1_0 y6, frow 2 inb_S8x1024_S1x1024_2_0 y6, frow 3 inb_S8x1024_S1x1024_3_0 y6] : Fin 4 → Vec Ideal S1x1024 .f32) j) (ix2 0 k)
      = A2 m c (ix2 k (⟨3328 + j.val, by omega⟩ : Fin 3332)) := fun k => by
    rw [← h6 j k]
    fin_cases j
    · exact frow_apply 0 _ y6 k (by omega)
    · exact frow_apply 1 _ y6 k (by omega)
    · exact frow_apply 2 _ y6 k (by omega)
    · exact frow_apply 3 _ y6 k (by omega)
  unfold gates
  rw [pay22_apply, v18_apply, h9]
  simp only [norm_of m c R y0 y1 h0 h1, hw]

theorem out10_eq (t : Fin cfg0.N) (r : Fin 512) (d : Fin 1024) :
    ((outsAt0 m c t.val t.isLt).1 : Vec Ideal S512x1024 .f32) (ix2 r d) = val_main_v19 (F := Ideal) (A0 m c) (A1 m c) (A2 m c) (ix2 (row t r) d) := by
  by_cases h0 : t.val % 8 = 0
  · rw [outsAt0_A m c t h0]
    dsimp only
    rw [out0_A_10_eq]
    exact cols_of m c (row t) _ _ _ (iblk0 m c t) (iblk1 m c t) (iblk2 m c t) r d
  · rw [outsAt0_B m c t h0]
    dsimp only
    rw [out0_B_10_eq]
    exact cols_of m c (row t) _ _ _ (iblk0 m c t) (iblk1 m c t) (iblk2 m c t) r d

theorem out13_eq (t : Fin cfg0.N) (r : Fin 512) (j : Fin 4) :
    ((outsAt0 m c t.val t.isLt).2.2.2.1 : Vec Ideal S512x4 .f32) (ix2 r j) = val_main_v18 (F := Ideal) (A0 m c) (A1 m c) (A2 m c) (A5 m c) (ix2 (row t r) j) := by
  by_cases h0 : t.val % 8 = 0
  · rw [outsAt0_A m c t h0]
    dsimp only
    rw [out0_A_13_eq]
    exact gates_of m c (row t) _ _ _ _ (iblk0 m c t) (iblk1 m c t) (iblk6 m c t) (iblk9 m c t) r j
  · rw [outsAt0_B m c t h0]
    dsimp only
    rw [out0_B_13_eq]
    exact gates_of m c (row t) _ _ _ _ (iblk0 m c t) (iblk1 m c t) (iblk6 m c t) (iblk9 m c t) r j

/-- THE FIRST RESULT: the recurrence's columns the pipeline leaves are the reference's. -/
theorem result10_eq : (Value.G10 m c : Vec Ideal S16384x1024 .f32) = val_main_v19 (F := Ideal) (A0 m c) (A1 m c) (A2 m c) := by
  funext i
  have hi0 : (i 0).val < 16384 := (i 0).isLt
  have hi1 : (i 1).val < 1024 := (i 1).isLt
  have hp : Value.pt10Of i = (i 0).val / 512 := by
    show 1 * ((i 0).val / 512 - 0) + 1 * ((i 1).val / 1024 - 0) = _
    omega
  have hlt : Value.pt10Of i < cfg0.N := by rw [hp, show cfg0.N = 32 from N_0]; omega
  unfold Value.G10
  rw [dif_pos hlt, ← Value.outsAt0_sweep m c (Value.pt10Of i) hlt]
  have el : Value.loc10Of i = ix2 (⟨(i 0).val % 512, Nat.mod_lt _ (by decide)⟩ : Fin 512) (⟨(i 1).val % 1024, Nat.mod_lt _ (by decide)⟩ : Fin 1024) := by
    funext a
    match a with
    | ⟨0, _⟩ => rfl
    | ⟨1, _⟩ => rfl
  rw [el]
  refine (out10_eq m c ⟨Value.pt10Of i, hlt⟩ _ _).trans ?_
  congr 1
  funext a
  apply Fin.ext
  match a with
  | ⟨0, _⟩ => show 512 * Value.pt10Of i + (i 0).val % 512 = (i 0).val; omega
  | ⟨1, _⟩ => show (i 1).val % 1024 = (i 1).val; omega

/-- THE SECOND RESULT: the forget gates' logarithms the pipeline leaves are the reference's. -/
theorem result13_eq : (Value.G13 m c : Vec Ideal S16384x4 .f32) = val_main_v18 (F := Ideal) (A0 m c) (A1 m c) (A2 m c) (A5 m c) := by
  funext i
  have hi0 : (i 0).val < 16384 := (i 0).isLt
  have hi1 : (i 1).val < 4 := (i 1).isLt
  have hp : Value.pt13Of i = (i 0).val / 512 := by
    show 1 * ((i 0).val / 512 - 0) + 1 * ((i 1).val / 4 - 0) = _
    omega
  have hlt : Value.pt13Of i < cfg0.N := by rw [hp, show cfg0.N = 32 from N_0]; omega
  unfold Value.G13
  rw [dif_pos hlt, ← Value.outsAt0_sweep m c (Value.pt13Of i) hlt]
  have el : Value.loc13Of i = ix2 (⟨(i 0).val % 512, Nat.mod_lt _ (by decide)⟩ : Fin 512) (⟨(i 1).val % 4, Nat.mod_lt _ (by decide)⟩ : Fin 4) := by
    funext a
    match a with
    | ⟨0, _⟩ => rfl
    | ⟨1, _⟩ => rfl
  rw [el]
  refine (out13_eq m c ⟨Value.pt13Of i, hlt⟩ _ _).trans ?_
  congr 1
  funext a
  apply Fin.ext
  match a with
  | ⟨0, _⟩ => show 512 * Value.pt13Of i + (i 0).val % 512 = (i 0).val; omega
  | ⟨1, _⟩ => show (i 1).val % 4 = (i 1).val; omega

end Cert.Kernel3Ideal.Proj

end
-- ==== Proof.Proj.Claim.lean ====
/- The projection's claims: its reference's frame, and the kernel's two results at the ideal instance. -/
module

public import proofs.«01_k».proof.Proof.Proj.Value
public import proofs.«01_k».proof.Proof.Gen.Reference3Ideal.Run
public import proofs.«01_k».proof.Defs
public import Idealize.ShloMosaic.Lib.Quiescent

@[expose] public section

noncomputable section

namespace Cert.Kernel3Ideal.Proj

open Idealize.ShloMosaic Idealize.ShloMosaic.TcCoe Idealize.SL.Sem

/-- The reference's frame. -/
theorem frame_reference3 : Cert.quiescent_Reference3Ideal := by
  intro m g _
  exact (θ_run Cert.Reference3Ideal.defs _ _).mono (fun r h => ⟨fun c => (h c).2.2, Idealize.ShloMosaic.sem_eq_zero_of_no_sems (by decide) r.2⟩)
    (Cert.Reference3Ideal.Value.run (F := Ideal) m g)

/-- The kernel's two results are the reference's, over the extended reals, for any arguments. -/
theorem algebraic3 : Cert.algebraic_Kernel3Ideal_Reference3Ideal := by
  intro m g m' g' _ hag
  refine ⟨fun c => Cert.Kernel3Ideal.Value.G10 m c, fun c => Cert.Kernel3Ideal.Value.G13 m c, ?_, ?_⟩
  · exact (θ_run Cert.Kernel3Ideal.defs _ _).mono (fun r h c => ⟨(h c).1, (h c).2.2.2.1, (h c).2.2.2.2.2.2⟩) (Cert.Kernel3Ideal.Value.run m g)
  · refine (θ_run Cert.Reference3Ideal.defs _ _).mono (fun r h c => ⟨(h c).1.trans ?_, (h c).2.1.trans ?_, (h c).2.2⟩) (Cert.Reference3Ideal.Value.run (F := Ideal) m' g')
    · obtain ⟨a0, a1, a2, a3, a4, a5⟩ := hag c
      rw [Cert.Reference3Ideal.Read.val_main_v19_eq, a0, a1, a2]
      exact (result10_eq m c).symm
    · obtain ⟨a0, a1, a2, a3, a4, a5⟩ := hag c
      rw [Cert.Reference3Ideal.Read.val_main_v18_eq, a0, a1, a2, a5]
      exact (result13_eq m c).symm

end Cert.Kernel3Ideal.Proj

end
-- ==== Proof.Qkv.Reals.lean ====
/- Which of the projection's values are real numbers, and the head norm's mean square written two ways. -/
module

public import Idealize.ShloMosaic.PureOps.Ideal
public import Idealize.ShloMosaic.Lib.IdealHost
public import Idealize.ShloMosaic.Lib.Pointwise

@[expose] public section

noncomputable section

namespace Cert.Qkv

open Idealize.ShloMosaic

/-- An extended real that is a real number. -/
def Real' (x : EReal) : Prop := ∃ r : ℝ, x = (r : EReal)

theorem Real'.mul {x y : EReal} (hx : Real' x) (hy : Real' y) : Real' (x * y) := by
  obtain ⟨a, rfl⟩ := hx
  obtain ⟨b, rfl⟩ := hy
  exact ⟨a * b, (EReal.coe_mul a b).symm⟩

theorem Real'.sum {ι : Type} (s : Finset ι) (f : ι → EReal) (h : ∀ i, Real' (f i)) : Real' (∑ i ∈ s, f i) := by
  classical
  induction s using Finset.induction_on with
  | empty => exact ⟨0, by simp⟩
  | insert a s ha ih =>
    obtain ⟨x, hx⟩ := h a
    obtain ⟨y, hy⟩ := ih
    exact ⟨x + y, by rw [Finset.sum_insert ha, hx, hy, EReal.coe_add]⟩

theorem Real'.of_bounds {x : EReal} (h : x ≠ ⊥) (h' : x ≠ ⊤) : Real' x :=
  ⟨x.toReal, (EReal.coe_toReal h' h).symm⟩

theorem Real'.sub_self {x : EReal} (h : Real' x) : x - x = 0 := by
  obtain ⟨a, rfl⟩ := h
  rw [← EReal.coe_sub, _root_.sub_self, EReal.coe_zero]

theorem sq_nonneg' (x : EReal) : 0 ≤ x * x := by
  induction x with
  | bot => simp
  | top => simp
  | coe a => rw [← EReal.coe_mul]; exact_mod_cast mul_self_nonneg a

theorem real_of_sq {x : EReal} (h : x * x ≠ ⊤) : Real' x := by
  induction x with
  | bot => simp at h
  | top => simp at h
  | coe a => exact ⟨a, rfl⟩

theorem ofBits_1024 : Ideal.ofBits .f32 0x44800000#32 = ((1024 : ℝ) : EReal) := by
  simp [Ideal.ofBits, Ideal.ieee, -EReal.coe_mul]
  norm_num

theorem ofBits_64 : Ideal.ofBits .f32 0x42800000#32 = ((64 : ℝ) : EReal) := by
  simp [Ideal.ofBits, Ideal.ieee, -EReal.coe_mul]
  norm_num

theorem ofBits_inv64 : Ideal.ofBits .f32 0x3C800000#32 = ((1 / 64 : ℝ) : EReal) := by
  simp [Ideal.ofBits, Ideal.ieee, -EReal.coe_mul]
  norm_num

theorem ofBits_eps : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-- A row scaled by the inverse of its root mean square is real, whatever the row: where the row's squares sum to
    infinity the scale is zero. -/
theorem normed_real (x : Fin 1024 → EReal) (g : EReal) (hg : Real' g) (k : Fin 1024) :
    Real' (x k * Ideal.rsqrt (Ideal.div (∑ k : Fin 1024, x k * x k) (Ideal.ofBits .f32 0x44800000#32) + Ideal.ofBits .f32 0x358637BD#32) * g) := by
  obtain ⟨e, he, hE⟩ := ofBits_eps
  rw [ofBits_1024, hE, Ideal.div_coe (by norm_num)]
  by_cases hs : (∑ k : Fin 1024, x k * x k) = ⊤
  · rw [hs, EReal.top_mul_coe_of_pos (by norm_num), EReal.top_add_coe, Ideal.rsqrt_top, mul_zero, zero_mul]
    exact ⟨0, rfl⟩
  · have hx : ∀ k, Real' (x k) := fun k => real_of_sq fun h => hs (by
      have := Finset.single_le_sum (f := fun k => x k * x k) (fun i _ => sq_nonneg' (x i)) (Finset.mem_univ k)
      rw [h] at this
      exact top_le_iff.mp this)
    have h0 : 0 ≤ ∑ k : Fin 1024, x k * x k := Finset.sum_nonneg fun i _ => sq_nonneg' (x i)
    obtain ⟨s, hS⟩ := Real'.sum Finset.univ (fun k => x k * x k) fun k => (hx k).mul (hx k)
    rw [hS] at h0 ⊢
    have h0' : 0 ≤ s := by exact_mod_cast h0
    rw [← EReal.coe_mul, ← EReal.coe_add]
    refine ((hx k).mul ?_).mul hg
    have hp : 0 < s * (1 / 1024) + e := by positivity
    rw [Ideal.rsqrt_coe, if_neg (not_lt.mpr hp.le), if_neg hp.ne']
    exact ⟨_, rfl⟩

/-- A sum over the lanes of one head's segment, as the kernel's product with zeros and ones gives it. -/
theorem seg_sum (f : Fin 512 → EReal) (h : ℕ) (hh : h < 8) :
    (∑ j : Fin 512, f j * (if j.val / 64 = h then 1 else 0)) = ∑ i : Fin 64, f ⟨64 * h + i.val, by omega⟩ := by
  simp only [mul_ite, mul_one, mul_zero]
  rw [← Finset.sum_filter]
  refine Finset.sum_bij' (fun j _ => ⟨j.val % 64, Nat.mod_lt _ (by decide)⟩) (fun i _ => ⟨64 * h + i.val, by omega⟩) ?_ ?_ ?_ ?_ ?_
  · intro j _; exact Finset.mem_univ _
  · intro i _
    simp only [Finset.mem_filter, Finset.mem_univ, true_and]
    omega
  · intro j hj
    simp only [Finset.mem_filter, Finset.mem_univ, true_and] at hj
    apply Fin.ext
    show 64 * h + j.val % 64 = j.val
    omega
  · intro i _
    apply Fin.ext
    show (64 * h + i.val) % 64 = i.val
    omega
  · intro j hj
    simp only [Finset.mem_filter, Finset.mem_univ, true_and] at hj
    congr 1
    apply Fin.ext
    show j.val = 64 * h + j.val % 64
    omega

/-- One value of a normalised head: the value over the root mean square of the head's values, times its weight. -/
def headNorm (z : Fin 512 → EReal) (g : EReal) (d : Fin 512) : EReal :=
  z d * Ideal.rsqrt (Ideal.div (∑ i : Fin 64, z ⟨64 * (d.val / 64) + i.val, by omega⟩ * z ⟨64 * (d.val / 64) + i.val, by omega⟩) (Ideal.ofBits .f32 0x42800000#32)
    + Ideal.ofBits .f32 0x358637BD#32) * g

/-- The kernel's form of it, its squares cut in two parts of which the second is nothing where they are real. -/
theorem headNorm_kernel (z : Fin 512 → EReal) (g : EReal) (d : Fin 512) (w : Fin 512 → EReal)
    (hw : ∀ j : Fin 512, w j = if j.val / 64 = d.val / 64 then 1 else 0) (hz : ∀ j, Real' (z j)) :
    z d * Ideal.rsqrt (((∑ j : Fin 512, z j * z j * w j) + ∑ j : Fin 512, (z j * z j - z j * z j) * w j) * Ideal.ofBits .f32 0x3C800000#32
      + Ideal.ofBits .f32 0x358637BD#32) * g = headNorm z g d := by
  have h2 : ∀ j : Fin 512, (z j * z j - z j * z j) * w j = 0 := fun j => by
    rw [((hz j).mul (hz j)).sub_self, zero_mul]
  unfold headNorm
  rw [Finset.sum_congr rfl (fun j _ => h2 j), Finset.sum_const_zero, add_zero]
  simp only [hw]
  rw [seg_sum (fun j => z j * z j) (d.val / 64) (by omega), ofBits_64, ofBits_inv64, Ideal.div_coe (by norm_num)]

end Cert.Qkv

end
-- ==== Proof.Qkv.Payload.lean ====
/- The values the projection kernel's body computes for its queries, keys and values, read at an index over the extended
   reals. -/
module

public import proofs.«01_k».proof.Proof.Gen.Kernel4Ideal.Skeleton
public import proofs.«01_k».proof.Proof.Qkv.Reals
public import Idealize.ShloMosaic.Lib.Pointwise
public import Idealize.ShloMosaic.Lib.IdealHost

@[expose] public section

set_option maxRecDepth 16384

noncomputable section

namespace Cert.Kernel4Ideal.Qkv

open Cert.Kernel4Ideal Cert.Kernel4Ideal.Gen Cert.Qkv Idealize.ShloMosaic Idealize.ShloMosaic.TcCoe Idealize.SL.Sem

/-- The normalised row. -/
theorem pay3_apply (x : Vec Ideal S512x1024 .f32) (g : Vec Ideal S1x1024 .f32) (r : Fin 512) (k : Fin 1024) :
    k0_pay3 (F := Ideal) x g (ix2 r k)
      = (x (ix2 r k) * Ideal.rsqrt (Ideal.div (∑ k : Fin 1024, x (ix2 r k) * x (ix2 r k)) (Ideal.ofBits .f32 0x44800000#32) + Ideal.ofBits .f32 0x358637BD#32) * g (ix2 0 k) : EReal) := by
  unfold k0_pay3
  pointwise

/-- The query columns of the projection. -/
theorem pay6_apply (x : Vec Ideal S512x1024 .f32) (g : Vec Ideal S1x1024 .f32) (w : Vec Ideal S1024x768 .bf16) (r : Fin 512) (d : Fin 768) :
    k0_pay6 (F := Ideal) x g w (ix2 r d) = (∑ k : Fin 1024, k0_pay3 (F := Ideal) x g (ix2 r k) * w (ix2 k d) : EReal) := by
  unfold k0_pay6 k0_pay4
  generalize k0_pay3 (F := Ideal) x g = v
  pointwise

/-- The key columns. -/
theorem pay7_apply (x : Vec Ideal S512x1024 .f32) (g : Vec Ideal S1x1024 .f32) (w : Vec Ideal S1024x768 .bf16) (r : Fin 512) (d : Fin 768) :
    k0_pay7 (F := Ideal) x g w (ix2 r d) = (∑ k : Fin 1024, k0_pay3 (F := Ideal) x g (ix2 r k) * w (ix2 k d) : EReal) := by
  unfold k0_pay7 k0_pay4
  generalize k0_pay3 (F := Ideal) x g = v
  pointwise

/-- The value columns. -/
theorem pay8_apply (x : Vec Ideal S512x1024 .f32) (g : Vec Ideal S1x1024 .f32) (w : Vec Ideal S1024x768 .bf16) (r : Fin 512) (d : Fin 768) :
    k0_pay8 (F := Ideal) x g w (ix2 r d) = (∑ k : Fin 1024, k0_pay3 (F := Ideal) x g (ix2 r k) * w (ix2 k d) : EReal) := by
  unfold k0_pay8 k0_pay4
  generalize k0_pay3 (F := Ideal) x g = v
  pointwise

/-! ## Which lanes lie in one head -/

/-- Whether two lanes lie in one head, as the kernel finds it from the lanes' numbers. -/
abbrev same : IVec S512x512 1 := k0_pay11 (iota .tc S512x512 32 [0] iota_S512x512_d0_w32) 64#32 k0_pay9 k0_pay10

/-- The quotient by 64, rounded down, in the kernel's integer operations. -/
abbrev quot (a : BitVec 32) : BitVec 32 :=
  Scalar.select (IntOp.andi (IntOp.cmpi .ne (IntOp.subi ((IntOp.cmpi .sgt a 0#32).setWidth 32) ((IntOp.cmpi .slt a 0#32).setWidth 32)) (Scalar.subi (Scalar.extui (Scalar.cmpi .sgt 64#32 0#32)) (Scalar.extui (Scalar.cmpi .slt 64#32 0#32)))) (IntOp.cmpi .ne (IntOp.remsi .vector a 64#32) 0#32))
    (IntOp.subi (IntOp.divsi .vector a 64#32) 1#32) (IntOp.divsi .vector a 64#32)

theorem quot_eq : ∀ i : Fin 512, quot (BitVec.ofNat 32 i.val) = BitVec.ofNat 32 (i.val / 64) := by
  decide +kernel

theorem same_apply (i j : Fin 512) : same (ix2 i j) = if i.val / 64 = j.val / 64 then 1#1 else 0#1 := by
  have h : same (ix2 i j) = IntOp.cmpi .eq (quot (BitVec.ofNat 32 i.val)) (quot (BitVec.ofNat 32 j.val)) := by
    unfold same k0_pay11 k0_pay9 k0_pay10
    pointwise
    all_goals rfl
  rw [h, quot_eq, quot_eq]
  have hh : ∀ a b : Fin 8, IntOp.cmpi .eq (BitVec.ofNat 32 a.val) (BitVec.ofNat 32 b.val) = if a.val = b.val then 1#1 else 0#1 := by
    decide +kernel
  exact hh ⟨i.val / 64, by omega⟩ ⟨j.val / 64, by omega⟩

/-- The kernel's matrix of zeros and ones. -/
abbrev seg : FVec Ideal S512x512 .bf16 := k0_pay13 (F := Ideal) same (Scalar.ofBits .f32 0x00000000#32) (k0_pay12 (F := Ideal))

theorem seg_apply (i j : Fin 512) : seg (ix2 i j) = (if i.val / 64 = j.val / 64 then 1 else 0 : EReal) := by
  have h : seg (ix2 i j) = (Scalar.select (same (ix2 i j)) (Ideal.ofBits .f32 0x3F800000#32 : EReal) (Ideal.ofBits .f32 0x00000000#32)) := by
    unfold seg k0_pay13 k0_pay12
    generalize same = s
    pointwise
  have h1 : Ideal.ofBits .f32 0x3F800000#32 = (1 : EReal) := by
    simp [Ideal.ofBits, Ideal.ieee, -EReal.coe_mul]
    norm_num
  have h0 : Ideal.ofBits .f32 0x00000000#32 = (0 : EReal) := by
    simp [Ideal.ofBits, Ideal.ieee, -EReal.coe_mul]
  rw [h, same_apply, h1, h0]
  by_cases e : i.val / 64 = j.val / 64
  · rw [if_pos e, if_pos e]; rfl
  · rw [if_neg e, if_neg e]; rfl

/-- The normalised heads of the keys. -/
theorem pay14_apply (v : FVec Ideal S512x768 .f32) (g : Vec Ideal S1x512 .f32) (r d : Fin 512)
    (hz : ∀ j : Fin 512, Real' (v (ix2 r ⟨j.val, by omega⟩))) :
    k0_pay14 (F := Ideal) v same (Scalar.ofBits .f32 0x00000000#32) (k0_pay12 (F := Ideal)) g (ix2 r d)
      = headNorm (fun j => v (ix2 r ⟨j.val, by omega⟩)) (g (ix2 0 d)) d := by
  rw [← headNorm_kernel (fun j => v (ix2 r ⟨j.val, by omega⟩)) (g (ix2 0 d)) d (fun j => seg (ix2 j d)) (fun j => seg_apply j d) hz]
  unfold k0_pay14 seg
  generalize k0_pay13 (F := Ideal) same (Scalar.ofBits .f32 0x00000000#32) (k0_pay12 (F := Ideal)) = s
  pointwise

/-- The normalised heads of the queries. -/
theorem pay15_apply (v : FVec Ideal S512x768 .f32) (g : Vec Ideal S1x512 .f32) (r d : Fin 512)
    (hz : ∀ j : Fin 512, Real' (v (ix2 r ⟨j.val, by omega⟩))) :
    k0_pay15 (F := Ideal) v same (Scalar.ofBits .f32 0x00000000#32) (k0_pay12 (F := Ideal)) g (ix2 r d)
      = headNorm (fun j => v (ix2 r ⟨j.val, by omega⟩)) (g (ix2 0 d)) d := by
  rw [← headNorm_kernel (fun j => v (ix2 r ⟨j.val, by omega⟩)) (g (ix2 0 d)) d (fun j => seg (ix2 j d)) (fun j => seg_apply j d) hz]
  unfold k0_pay15 seg
  generalize k0_pay13 (F := Ideal) same (Scalar.ofBits .f32 0x00000000#32) (k0_pay12 (F := Ideal)) = s
  pointwise

/-- The queries without a norm. -/
theorem pay16_apply (v : FVec Ideal S512x768 .f32) (r : Fin 512) (d : Fin 256) :
    k0_pay16 (F := Ideal) v (ix2 r d) = v (ix2 r ⟨512 + d.val, by omega⟩) := by
  unfold k0_pay16
  pointwise

/-- The keys without a norm. -/
theorem pay17_apply (v : FVec Ideal S512x768 .f32) (r : Fin 512) (d : Fin 256) :
    k0_pay17 (F := Ideal) v (ix2 r d) = v (ix2 r ⟨512 + d.val, by omega⟩) := by
  unfold k0_pay17
  pointwise

end Cert.Kernel4Ideal.Qkv

end
-- ==== Proof.Qkv.Body.lean ====
/- What the projection kernel's body leaves in its queries and in its keys and values: any tile that its stores' values
   are the parts of. -/
module

public import proofs.«01_k».proof.Proof.Qkv.Payload
public import proofs.«01_k».proof.Proof.Gen.Kernel4Ideal.Value
public import Idealize.ShloMosaic.Lib.Tactic

@[expose] public section

set_option maxRecDepth 16384

noncomputable section

namespace Cert.Kernel4Ideal.Qkv

open Cert.Kernel4Ideal Cert.Kernel4Ideal.Gen Idealize.ShloMosaic Idealize.ShloMosaic.TcCoe Idealize.SL.Sem

theorem hz : (![0, 0] : Fin 2 → Nat) = fun _ => 0 := funext fun a => by fin_cases a <;> rfl

/-- A tile's queries are `G`'s: of the normalised heads, and of the rest. -/
def QTile (x0 : Vec Ideal S512x1024 .f32) (x1 : Vec Ideal S1x1024 .f32) (x3 : Vec Ideal S1024x768 .bf16) (x7 : Vec Ideal S1x512 .f32) (G : Vec Ideal S512x768 .f32) : Prop :=
  (∀ x : S512x512.Idx, k0_pay15 (F := Ideal) (k0_pay6 x0 x1 x3) same (Scalar.ofBits .f32 0x00000000#32) (k0_pay12 (F := Ideal)) x7 x = G ((Rect.unit (s := S512x768) ![0, 0] S512x512.size inb_S512x768_S512x512_0_0).emb x))
  ∧ ∀ x : S512x256.Idx, k0_pay16 (F := Ideal) (k0_pay6 x0 x1 x3) x = G ((Rect.unit (s := S512x768) ![0, 512] S512x256.size inb_S512x768_S512x256_0_512).emb x)

/-- A tile's keys and values are `G`'s: of the normalised heads, of the keys' rest, and of the values. -/
def KVTile (x0 : Vec Ideal S512x1024 .f32) (x1 : Vec Ideal S1x1024 .f32) (x4 : Vec Ideal S1024x768 .bf16) (x5 : Vec Ideal S1024x768 .bf16) (x8 : Vec Ideal S1x512 .f32) (G : Vec Ideal S512x1536 .f32) : Prop :=
  (∀ x : S512x512.Idx, k0_pay14 (F := Ideal) (k0_pay7 x0 x1 x4) same (Scalar.ofBits .f32 0x00000000#32) (k0_pay12 (F := Ideal)) x8 x = G ((Rect.unit (s := S512x1536) ![0, 0] S512x512.size inb_S512x1536_S512x512_0_0).emb x))
  ∧ (∀ x : S512x256.Idx, k0_pay17 (F := Ideal) (k0_pay7 x0 x1 x4) x = G ((Rect.unit (s := S512x1536) ![0, 512] S512x256.size inb_S512x1536_S512x256_0_512).emb x))
  ∧ ∀ x : S512x768.Idx, k0_pay8 (F := Ideal) x0 x1 x5 x = G ((Rect.unit (s := S512x1536) ![0, 768] S512x768.size inb_S512x1536_S512x768_0_768).emb x)

theorem out0_A_11_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x768 .bf16) (harg4 : arg4.IsWhole) (arg5 : Memref sig .tc .vmem S1024x768 .bf16) (harg5 : arg5.IsWhole) (arg6 : Memref sig .tc .vmem S1024x768 .bf16) (harg6 : arg6.IsWhole) (arg7 : Memref sig .tc .vmem S8x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S512x1024 .f32) (harg11 : arg11.IsWhole) (arg12 : Memref sig .tc .vmem S512x768 .f32) (harg12 : arg12.IsWhole) (arg13 : Memref sig .tc .vmem S512x1536 .f32) (harg13 : arg13.IsWhole) (arg14 : Memref sig .tc .vmem S512x4 .f32) (harg14 : arg14.IsWhole) (arg15 : Memref sig .tc .vmem S512x4 .f32) (harg15 : arg15.IsWhole) (arg16 : Memref sig .tc .vmem S1x2x256 .f32) (harg16 : arg16.IsWhole) (arg17 : Memref sig .tc .vmem S1x128 .f32) (harg17 : arg17.IsWhole) (hc0 : cond0_0 i)
    (x0 : Vec Ideal S512x1024 .f32) (x1 : Vec Ideal S1x1024 .f32) (x2 : Vec Ideal S1024x1024 .bf16) (x3 : Vec Ideal S1024x768 .bf16) (x4 : Vec Ideal S1024x768 .bf16) (x5 : Vec Ideal S1024x768 .bf16) (x6 : Vec Ideal S8x1024 .f32) (x7 : Vec Ideal S1x512 .f32) (x8 : Vec Ideal S1x512 .f32) (x9 : Vec Ideal S1x128 .f32) (G : Vec Ideal S512x768 .f32) (hG : QTile x0 x1 x3 x7 G) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = G := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  funext y
  refine View.canon_apply_of_pieces G _ ?_ y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 y)
  unfold kernelRun0_A
  dsimp only
  (try sl_unfold_words)
  intro p hp x
  simp only [List.mem_cons, List.mem_nil_iff, List.not_mem_nil, or_false] at hp
  rcases hp with rfl | rfl
  all_goals
    dsimp only at x ⊢
    simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1024x1024) hz, View.ld_unit_zero (S := S1x1024) hz, View.ld_unit_zero (S := S1024x768) hz, View.ld_unit_zero (S := S1x512) hz, View.ld_unit_zero (S := S1x128) hz, shapeCast_self]
    first | exact hG.1 x | exact hG.2 x

theorem out0_A_12_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x768 .bf16) (harg4 : arg4.IsWhole) (arg5 : Memref sig .tc .vmem S1024x768 .bf16) (harg5 : arg5.IsWhole) (arg6 : Memref sig .tc .vmem S1024x768 .bf16) (harg6 : arg6.IsWhole) (arg7 : Memref sig .tc .vmem S8x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S512x1024 .f32) (harg11 : arg11.IsWhole) (arg12 : Memref sig .tc .vmem S512x768 .f32) (harg12 : arg12.IsWhole) (arg13 : Memref sig .tc .vmem S512x1536 .f32) (harg13 : arg13.IsWhole) (arg14 : Memref sig .tc .vmem S512x4 .f32) (harg14 : arg14.IsWhole) (arg15 : Memref sig .tc .vmem S512x4 .f32) (harg15 : arg15.IsWhole) (arg16 : Memref sig .tc .vmem S1x2x256 .f32) (harg16 : arg16.IsWhole) (arg17 : Memref sig .tc .vmem S1x128 .f32) (harg17 : arg17.IsWhole) (hc0 : cond0_0 i)
    (x0 : Vec Ideal S512x1024 .f32) (x1 : Vec Ideal S1x1024 .f32) (x2 : Vec Ideal S1024x1024 .bf16) (x3 : Vec Ideal S1024x768 .bf16) (x4 : Vec Ideal S1024x768 .bf16) (x5 : Vec Ideal S1024x768 .bf16) (x6 : Vec Ideal S8x1024 .f32) (x7 : Vec Ideal S1x512 .f32) (x8 : Vec Ideal S1x512 .f32) (x9 : Vec Ideal S1x128 .f32) (G : Vec Ideal S512x1536 .f32) (hG : KVTile x0 x1 x4 x5 x8 G) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = G := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  funext y
  refine View.canon_apply_of_pieces G _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 y)
  unfold kernelRun0_A
  dsimp only
  (try sl_unfold_words)
  intro p hp x
  simp only [List.mem_cons, List.mem_nil_iff, List.not_mem_nil, or_false] at hp
  rcases hp with rfl | rfl | rfl
  all_goals
    dsimp only at x ⊢
    simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1024x1024) hz, View.ld_unit_zero (S := S1x1024) hz, View.ld_unit_zero (S := S1024x768) hz, View.ld_unit_zero (S := S1x512) hz, View.ld_unit_zero (S := S1x128) hz, shapeCast_self]
    first | exact hG.1 x | exact hG.2.1 x | exact hG.2.2 x

theorem out0_B_11_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x768 .bf16) (harg4 : arg4.IsWhole) (arg5 : Memref sig .tc .vmem S1024x768 .bf16) (harg5 : arg5.IsWhole) (arg6 : Memref sig .tc .vmem S1024x768 .bf16) (harg6 : arg6.IsWhole) (arg7 : Memref sig .tc .vmem S8x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S512x1024 .f32) (harg11 : arg11.IsWhole) (arg12 : Memref sig .tc .vmem S512x768 .f32) (harg12 : arg12.IsWhole) (arg13 : Memref sig .tc .vmem S512x1536 .f32) (harg13 : arg13.IsWhole) (arg14 : Memref sig .tc .vmem S512x4 .f32) (harg14 : arg14.IsWhole) (arg15 : Memref sig .tc .vmem S512x4 .f32) (harg15 : arg15.IsWhole) (arg16 : Memref sig .tc .vmem S1x2x256 .f32) (harg16 : arg16.IsWhole) (arg17 : Memref sig .tc .vmem S1x128 .f32) (harg17 : arg17.IsWhole) (hc0 : ¬cond0_0 i)
    (x0 : Vec Ideal S512x1024 .f32) (x1 : Vec Ideal S1x1024 .f32) (x2 : Vec Ideal S1024x1024 .bf16) (x3 : Vec Ideal S1024x768 .bf16) (x4 : Vec Ideal S1024x768 .bf16) (x5 : Vec Ideal S1024x768 .bf16) (x6 : Vec Ideal S8x1024 .f32) (x7 : Vec Ideal S1x512 .f32) (x8 : Vec Ideal S1x512 .f32) (x9 : Vec Ideal S1x128 .f32) (xs0 : Vec Ideal S1x128 .f32) (G : Vec Ideal S512x768 .f32) (hG : QTile x0 x1 x3 x7 G) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 = G := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0)]
  funext y
  refine View.canon_apply_of_pieces G _ ?_ y (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 y)
  unfold kernelRun0_B
  dsimp only
  (try sl_unfold_words)
  intro p hp x
  simp only [List.mem_cons, List.mem_nil_iff, List.not_mem_nil, or_false] at hp
  rcases hp with rfl | rfl
  all_goals
    dsimp only at x ⊢
    simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1024x1024) hz, View.ld_unit_zero (S := S1x1024) hz, View.ld_unit_zero (S := S1024x768) hz, View.ld_unit_zero (S := S1x512) hz, View.ld_unit_zero (S := S1x128) hz, shapeCast_self]
    first | exact hG.1 x | exact hG.2 x

theorem out0_B_12_eq (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x1024 .bf16) (harg3 : arg3.IsWhole) (arg4 : Memref sig .tc .vmem S1024x768 .bf16) (harg4 : arg4.IsWhole) (arg5 : Memref sig .tc .vmem S1024x768 .bf16) (harg5 : arg5.IsWhole) (arg6 : Memref sig .tc .vmem S1024x768 .bf16) (harg6 : arg6.IsWhole) (arg7 : Memref sig .tc .vmem S8x1024 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x128 .f32) (harg10 : arg10.IsWhole) (arg11 : Memref sig .tc .vmem S512x1024 .f32) (harg11 : arg11.IsWhole) (arg12 : Memref sig .tc .vmem S512x768 .f32) (harg12 : arg12.IsWhole) (arg13 : Memref sig .tc .vmem S512x1536 .f32) (harg13 : arg13.IsWhole) (arg14 : Memref sig .tc .vmem S512x4 .f32) (harg14 : arg14.IsWhole) (arg15 : Memref sig .tc .vmem S512x4 .f32) (harg15 : arg15.IsWhole) (arg16 : Memref sig .tc .vmem S1x2x256 .f32) (harg16 : arg16.IsWhole) (arg17 : Memref sig .tc .vmem S1x128 .f32) (harg17 : arg17.IsWhole) (hc0 : ¬cond0_0 i)
    (x0 : Vec Ideal S512x1024 .f32) (x1 : Vec Ideal S1x1024 .f32) (x2 : Vec Ideal S1024x1024 .bf16) (x3 : Vec Ideal S1024x768 .bf16) (x4 : Vec Ideal S1024x768 .bf16) (x5 : Vec Ideal S1024x768 .bf16) (x6 : Vec Ideal S8x1024 .f32) (x7 : Vec Ideal S1x512 .f32) (x8 : Vec Ideal S1x512 .f32) (x9 : Vec Ideal S1x128 .f32) (xs0 : Vec Ideal S1x128 .f32) (G : Vec Ideal S512x1536 .f32) (hG : KVTile x0 x1 x4 x5 x8 G) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 = G := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0)]
  funext y
  refine View.canon_apply_of_pieces G _ ?_ y (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 y)
  unfold kernelRun0_B
  dsimp only
  (try sl_unfold_words)
  intro p hp x
  simp only [List.mem_cons, List.mem_nil_iff, List.not_mem_nil, or_false] at hp
  rcases hp with rfl | rfl | rfl
  all_goals
    dsimp only at x ⊢
    simp only [View.readAt_eq_ld, harg1.read_unread, harg2.read_unread, harg3.read_unread, harg4.read_unread, harg5.read_unread, harg6.read_unread, harg7.read_unread, harg8.read_unread, harg9.read_unread, harg10.read_unread, View.ld_unit_zero (S := S512x1024) hz, View.ld_unit_zero (S := S1024x1024) hz, View.ld_unit_zero (S := S1x1024) hz, View.ld_unit_zero (S := S1024x768) hz, View.ld_unit_zero (S := S1x512) hz, View.ld_unit_zero (S := S1x128) hz, shapeCast_self]
    first | exact hG.1 x | exact hG.2.1 x | exact hG.2.2 x

end Cert.Kernel4Ideal.Qkv

end
-- ==== Proof.Qkv.Ref.lean ====
/- The queries', keys' and values' reference, read at an index over the extended reals. -/
module

public import proofs.«01_k».proof.Proof.Gen.Reference4Ideal.Read
public import proofs.«01_k».proof.Proof.Qkv.Reals
public import Idealize.ShloMosaic.Lib.Pointwise
public import Idealize.ShloMosaic.Lib.IdealHost

@[expose] public section

set_option maxRecDepth 16384

noncomputable section

namespace Cert.Reference4Ideal.Qkv

open Cert.Reference4Ideal Cert.Reference4Ideal.Gen Cert.Reference4Ideal.Read Cert.Qkv Idealize.ShloMosaic Idealize.ShloMosaic.TcCoe Idealize.SL.Sem

variable (x0 : (⟨S16384x1024, .f32⟩ : BufTy).Contents (Elt Ideal)) (x1 : (⟨S1024, .f32⟩ : BufTy).Contents (Elt Ideal))
  (x2 : (⟨S1024x3332, .f32⟩ : BufTy).Contents (Elt Ideal)) (x3 : (⟨S8x64, .f32⟩ : BufTy).Contents (Elt Ideal)) (x4 : (⟨S8x64, .f32⟩ : BufTy).Contents (Elt Ideal))

/-- A value of a normalised row. -/
def nrm (r : Fin 16384) (k : Fin 1024) : EReal :=
  x0 (ix2 r k) * Ideal.rsqrt (Ideal.div (∑ k : Fin 1024, x0 (ix2 r k) * x0 (ix2 r k)) (Ideal.ofBits .f32 0x44800000#32) + Ideal.ofBits .f32 0x358637BD#32) * x1 (ix1 k)

/-- A value of the projection. -/
def proj (r : Fin 16384) (d : Fin 3332) : EReal := ∑ k : Fin 1024, nrm x0 x1 r k * x2 (ix2 k d)

theorem v12_apply (r : Fin 16384) (k : Fin 1024) : val_main_v12 (F := Ideal) x0 x1 (ix2 r k) = nrm x0 x1 r k := by
  unfold nrm val_main_v12 val_main_v11 val_main_v10 val_main_v9 val_main_v8 val_main_v7 val_main_v6 val_main_v5 val_main_v4 val_main_v3 val_main_v2 val_main_v1 val_main_v0 val_main_cst val_main_cst_0 val_main_cst_1
  pointwise

theorem v13_apply (r : Fin 16384) (d : Fin 3332) : val_main_v13 (F := Ideal) x0 x1 x2 (ix2 r d) = proj x0 x1 x2 r d := by
  have h : val_main_v13 (F := Ideal) x0 x1 x2 (ix2 r d) = (∑ k : Fin 1024, val_main_v12 (F := Ideal) x0 x1 (ix2 r k) * x2 (ix2 k d) : EReal) := by
    unfold val_main_v13
    generalize val_main_v12 (F := Ideal) x0 x1 = v
    pointwise
  rw [h]
  unfold proj
  simp only [v12_apply]

/-! ## The columns cut into heads -/

theorem v15_apply (i : S16384x12x64.Idx) (r : Fin 16384) (j : Fin 768) (h0 : (i 0).val = r.val) (h1 : 64 * (i 1).val + (i 2).val = j.val) :
    val_main_v15 (F := Ideal) x0 x1 x2 i = proj x0 x1 x2 r ⟨1024 + j.val, by omega⟩ := by
  have a1 : (i 1).val < 12 := (i 1).isLt
  have a2 : (i 2).val < 64 := (i 2).isLt
  rw [val_main_v15_apply, val_main_v14_apply, ← v13_apply]
  congr 1
  funext a
  apply Fin.ext
  match a with
  | ⟨0, _⟩ => show (((i 0).val * 12 + (i 1).val) * 64 + (i 2).val) / 768 = r.val; omega
  | ⟨1, _⟩ => show 1024 + (((i 0).val * 12 + (i 1).val) * 64 + (i 2).val) % 768 = 1024 + j.val; omega

theorem v17_apply (i : S16384x12x64.Idx) (r : Fin 16384) (j : Fin 768) (h0 : (i 0).val = r.val) (h1 : 64 * (i 1).val + (i 2).val = j.val) :
    val_main_v17 (F := Ideal) x0 x1 x2 i = proj x0 x1 x2 r ⟨1792 + j.val, by omega⟩ := by
  have a1 : (i 1).val < 12 := (i 1).isLt
  have a2 : (i 2).val < 64 := (i 2).isLt
  rw [val_main_v17_apply, val_main_v16_apply, ← v13_apply]
  congr 1
  funext a
  apply Fin.ext
  match a with
  | ⟨0, _⟩ => show (((i 0).val * 12 + (i 1).val) * 64 + (i 2).val) / 768 = r.val; omega
  | ⟨1, _⟩ => show 1792 + (((i 0).val * 12 + (i 1).val) * 64 + (i 2).val) % 768 = 1792 + j.val; omega

theorem v19_apply (i : S16384x12x64.Idx) (r : Fin 16384) (j : Fin 768) (h0 : (i 0).val = r.val) (h1 : 64 * (i 1).val + (i 2).val = j.val) :
    val_main_v19 (F := Ideal) x0 x1 x2 i = proj x0 x1 x2 r ⟨2560 + j.val, by omega⟩ := by
  have a1 : (i 1).val < 12 := (i 1).isLt
  have a2 : (i 2).val < 64 := (i 2).isLt
  rw [val_main_v19_apply, val_main_v18_apply, ← v13_apply]
  congr 1
  funext a
  apply Fin.ext
  match a with
  | ⟨0, _⟩ => show (((i 0).val * 12 + (i 1).val) * 64 + (i 2).val) / 768 = r.val; omega
  | ⟨1, _⟩ => show 2560 + (((i 0).val * 12 + (i 1).val) * 64 + (i 2).val) % 768 = 2560 + j.val; omega

/-! ## The head norms -/

/-- A value of a head over the head's root mean square, times its weight. -/
theorem v33_form (r : Fin 16384) (h : Fin 8) (i : Fin 64) :
    val_main_v33 (F := Ideal) x0 x1 x2 x3 (ix3 r h i)
      = (val_main_v20 (F := Ideal) x0 x1 x2 (ix3 r h i) * Ideal.rsqrt (Ideal.div (∑ i : Fin 64, val_main_v20 (F := Ideal) x0 x1 x2 (ix3 r h i) * val_main_v20 (F := Ideal) x0 x1 x2 (ix3 r h i)) (Ideal.ofBits .f32 0x42800000#32) + Ideal.ofBits .f32 0x358637BD#32) * x3 (ix2 h i) : EReal) := by
  unfold val_main_v33 val_main_v32 val_main_v31 val_main_v30 val_main_v29 val_main_v28 val_main_v27 val_main_v26 val_main_v25 val_main_v24 val_main_v23 val_main_v22 val_main_v21 val_main_cst_2 val_main_cst_3 val_main_cst_4
  generalize val_main_v20 (F := Ideal) x0 x1 x2 = v
  pointwise

theorem v49_form (r : Fin 16384) (h : Fin 8) (i : Fin 64) :
    val_main_v49 (F := Ideal) x0 x1 x2 x4 (ix3 r h i)
      = (val_main_v36 (F := Ideal) x0 x1 x2 (ix3 r h i) * Ideal.rsqrt (Ideal.div (∑ i : Fin 64, val_main_v36 (F := Ideal) x0 x1 x2 (ix3 r h i) * val_main_v36 (F := Ideal) x0 x1 x2 (ix3 r h i)) (Ideal.ofBits .f32 0x42800000#32) + Ideal.ofBits .f32 0x358637BD#32) * x4 (ix2 h i) : EReal) := by
  unfold val_main_v49 val_main_v48 val_main_v47 val_main_v46 val_main_v45 val_main_v44 val_main_v43 val_main_v42 val_main_v41 val_main_v40 val_main_v39 val_main_v38 val_main_v37 val_main_cst_5 val_main_cst_6 val_main_cst_7
  generalize val_main_v36 (F := Ideal) x0 x1 x2 = v
  pointwise

theorem v20_apply (r : Fin 16384) (h : Fin 8) (i : Fin 64) :
    val_main_v20 (F := Ideal) x0 x1 x2 (ix3 r h i) = proj x0 x1 x2 r ⟨1024 + (64 * h.val + i.val), by omega⟩ := by
  rw [val_main_v20_apply]
  exact v15_apply x0 x1 x2 _ r ⟨64 * h.val + i.val, by omega⟩ rfl rfl

theorem v36_apply (r : Fin 16384) (h : Fin 8) (i : Fin 64) :
    val_main_v36 (F := Ideal) x0 x1 x2 (ix3 r h i) = proj x0 x1 x2 r ⟨1792 + (64 * h.val + i.val), by omega⟩ := by
  rw [val_main_v36_apply]
  exact v17_apply x0 x1 x2 _ r ⟨64 * h.val + i.val, by omega⟩ rfl rfl

theorem v33_apply (r : Fin 16384) (d : Fin 512) :
    val_main_v33 (F := Ideal) x0 x1 x2 x3 (ix3 r (⟨d.val / 64, by omega⟩ : Fin 8) (⟨d.val % 64, by omega⟩ : Fin 64))
      = headNorm (fun j => proj x0 x1 x2 r ⟨1024 + j.val, by omega⟩) (x3 (ix2 (⟨d.val / 64, by omega⟩ : Fin 8) (⟨d.val % 64, by omega⟩ : Fin 64))) d := by
  have e : (⟨1024 + (64 * (d.val / 64) + d.val % 64), by omega⟩ : Fin 3332) = ⟨1024 + d.val, by omega⟩ := Fin.ext (by show 1024 + (64 * (d.val / 64) + d.val % 64) = 1024 + d.val; omega)
  rw [v33_form]
  simp only [v20_apply]
  unfold headNorm
  rw [e]

theorem v49_apply (r : Fin 16384) (d : Fin 512) :
    val_main_v49 (F := Ideal) x0 x1 x2 x4 (ix3 r (⟨d.val / 64, by omega⟩ : Fin 8) (⟨d.val % 64, by omega⟩ : Fin 64))
      = headNorm (fun j => proj x0 x1 x2 r ⟨1792 + j.val, by omega⟩) (x4 (ix2 (⟨d.val / 64, by omega⟩ : Fin 8) (⟨d.val % 64, by omega⟩ : Fin 64))) d := by
  have e : (⟨1792 + (64 * (d.val / 64) + d.val % 64), by omega⟩ : Fin 3332) = ⟨1792 + d.val, by omega⟩ := Fin.ext (by show 1792 + (64 * (d.val / 64) + d.val % 64) = 1792 + d.val; omega)
  rw [v49_form]
  simp only [v36_apply]
  unfold headNorm
  rw [e]

/-! ## The heads joined again -/

/-- A normalised head of the queries. -/
theorem v35_left (j : S16384x12x64.Idx) (r : Fin 16384) (h : Fin 8) (i : Fin 64) (h0 : (j 0).val = r.val) (h1 : (j 1).val = h.val) (h2 : (j 2).val = i.val) :
    val_main_v35 (F := Ideal) x0 x1 x2 x3 j = val_main_v33 (F := Ideal) x0 x1 x2 x3 (ix3 r h i) := by
  unfold val_main_v35
  generalize val_main_v33 (F := Ideal) x0 x1 x2 x3 = y
  generalize val_main_v34 (F := Ideal) x0 x1 x2 = z
  exact concatenate_pair_apply_left (t := S16384x12x64) (s₁ := S16384x8x64) (s₂ := S16384x4x64) 1 y z _ j rfl (ix3 r h i) (fun b => match b with
    | ⟨0, _⟩ => h0.symm
    | ⟨1, _⟩ => h1.symm
    | ⟨2, _⟩ => h2.symm)

/-- A head of the queries without a norm. -/
theorem v35_right (j : S16384x12x64.Idx) (r : Fin 16384) (h : Fin 4) (i : Fin 64) (h0 : (j 0).val = r.val) (h1 : (j 1).val = h.val + 8) (h2 : (j 2).val = i.val) :
    val_main_v35 (F := Ideal) x0 x1 x2 x3 j = proj x0 x1 x2 r ⟨1536 + (64 * h.val + i.val), by omega⟩ := by
  have e : val_main_v35 (F := Ideal) x0 x1 x2 x3 j = val_main_v34 (F := Ideal) x0 x1 x2 (ix3 r h i) := by
    unfold val_main_v35
    generalize val_main_v33 (F := Ideal) x0 x1 x2 x3 = y
    generalize val_main_v34 (F := Ideal) x0 x1 x2 = z
    exact concatenate_pair_apply_right (t := S16384x12x64) (s₁ := S16384x8x64) (s₂ := S16384x4x64) 1 y z _ j rfl rfl (ix3 r h i) (fun b hb => match b, hb with
      | ⟨0, _⟩, _ => h0.symm
      | ⟨1, _⟩, hb => absurd rfl hb
      | ⟨2, _⟩, _ => h2.symm) h1.symm
  rw [e, val_main_v34_apply]
  refine (v15_apply x0 x1 x2 _ r ⟨512 + (64 * h.val + i.val), by omega⟩ rfl ?_).trans ?_
  · show 64 * (8 + h.val) + i.val = 512 + (64 * h.val + i.val)
    omega
  · congr 1
    apply Fin.ext
    show 1024 + (512 + (64 * h.val + i.val)) = 1536 + (64 * h.val + i.val)
    omega

/-- A normalised head of the keys. -/
theorem v51_left (j : S16384x12x64.Idx) (r : Fin 16384) (h : Fin 8) (i : Fin 64) (h0 : (j 0).val = r.val) (h1 : (j 1).val = h.val) (h2 : (j 2).val = i.val) :
    val_main_v51 (F := Ideal) x0 x1 x2 x4 j = val_main_v49 (F := Ideal) x0 x1 x2 x4 (ix3 r h i) := by
  unfold val_main_v51
  generalize val_main_v49 (F := Ideal) x0 x1 x2 x4 = y
  generalize val_main_v50 (F := Ideal) x0 x1 x2 = z
  exact concatenate_pair_apply_left (t := S16384x12x64) (s₁ := S16384x8x64) (s₂ := S16384x4x64) 1 y z _ j rfl (ix3 r h i) (fun b => match b with
    | ⟨0, _⟩ => h0.symm
    | ⟨1, _⟩ => h1.symm
    | ⟨2, _⟩ => h2.symm)

/-- A head of the keys without a norm. -/
theorem v51_right (j : S16384x12x64.Idx) (r : Fin 16384) (h : Fin 4) (i : Fin 64) (h0 : (j 0).val = r.val) (h1 : (j 1).val = h.val + 8) (h2 : (j 2).val = i.val) :
    val_main_v51 (F := Ideal) x0 x1 x2 x4 j = proj x0 x1 x2 r ⟨2304 + (64 * h.val + i.val), by omega⟩ := by
  have e : val_main_v51 (F := Ideal) x0 x1 x2 x4 j = val_main_v50 (F := Ideal) x0 x1 x2 (ix3 r h i) := by
    unfold val_main_v51
    generalize val_main_v49 (F := Ideal) x0 x1 x2 x4 = y
    generalize val_main_v50 (F := Ideal) x0 x1 x2 = z
    exact concatenate_pair_apply_right (t := S16384x12x64) (s₁ := S16384x8x64) (s₂ := S16384x4x64) 1 y z _ j rfl rfl (ix3 r h i) (fun b hb => match b, hb with
      | ⟨0, _⟩, _ => h0.symm
      | ⟨1, _⟩, hb => absurd rfl hb
      | ⟨2, _⟩, _ => h2.symm) h1.symm
  rw [e, val_main_v50_apply]
  refine (v17_apply x0 x1 x2 _ r ⟨512 + (64 * h.val + i.val), by omega⟩ rfl ?_).trans ?_
  · show 64 * (8 + h.val) + i.val = 512 + (64 * h.val + i.val)
    omega
  · congr 1
    apply Fin.ext
    show 1792 + (512 + (64 * h.val + i.val)) = 2304 + (64 * h.val + i.val)
    omega

/-- The keys are the first half of the pair. -/
theorem v54_left (j : S16384x2x12x64.Idx) (h1 : (j 1).val = 0) :
    val_main_v54 (F := Ideal) x0 x1 x2 x4 j
      = val_main_v51 (F := Ideal) x0 x1 x2 x4 (ix3 (⟨(j 0).val, (j 0).isLt⟩ : Fin 16384) (⟨(j 2).val, (j 2).isLt⟩ : Fin 12) (⟨(j 3).val, (j 3).isLt⟩ : Fin 64)) := by
  have e : val_main_v54 (F := Ideal) x0 x1 x2 x4 j = val_main_v52 (F := Ideal) x0 x1 x2 x4 (ix4 (⟨(j 0).val, (j 0).isLt⟩ : Fin 16384) (0 : Fin 1) (⟨(j 2).val, (j 2).isLt⟩ : Fin 12) (⟨(j 3).val, (j 3).isLt⟩ : Fin 64)) := by
    unfold val_main_v54
    generalize val_main_v52 (F := Ideal) x0 x1 x2 x4 = y
    generalize val_main_v53 (F := Ideal) x0 x1 x2 = z
    exact concatenate_pair_apply_left (t := S16384x2x12x64) (s₁ := S16384x1x12x64) (s₂ := S16384x1x12x64) 1 y z _ j rfl _ (fun b => match b with
      | ⟨0, _⟩ => rfl
      | ⟨1, _⟩ => h1.symm
      | ⟨2, _⟩ => rfl
      | ⟨3, _⟩ => rfl)
  rw [e, val_main_v52_apply]
  congr 1
  funext a
  match a with
  | ⟨0, _⟩ => rfl
  | ⟨1, _⟩ => rfl
  | ⟨2, _⟩ => rfl

/-- The values are its second half. -/
theorem v54_right (j : S16384x2x12x64.Idx) (h1 : (j 1).val = 1) :
    val_main_v54 (F := Ideal) x0 x1 x2 x4 j
      = val_main_v19 (F := Ideal) x0 x1 x2 (ix3 (⟨(j 0).val, (j 0).isLt⟩ : Fin 16384) (⟨(j 2).val, (j 2).isLt⟩ : Fin 12) (⟨(j 3).val, (j 3).isLt⟩ : Fin 64)) := by
  have e : val_main_v54 (F := Ideal) x0 x1 x2 x4 j = val_main_v53 (F := Ideal) x0 x1 x2 (ix4 (⟨(j 0).val, (j 0).isLt⟩ : Fin 16384) (0 : Fin 1) (⟨(j 2).val, (j 2).isLt⟩ : Fin 12) (⟨(j 3).val, (j 3).isLt⟩ : Fin 64)) := by
    unfold val_main_v54
    generalize val_main_v52 (F := Ideal) x0 x1 x2 x4 = y
    generalize val_main_v53 (F := Ideal) x0 x1 x2 = z
    exact concatenate_pair_apply_right (t := S16384x2x12x64) (s₁ := S16384x1x12x64) (s₂ := S16384x1x12x64) 1 y z _ j rfl rfl _ (fun b hb => match b, hb with
      | ⟨0, _⟩, _ => rfl
      | ⟨1, _⟩, hb => absurd rfl hb
      | ⟨2, _⟩, _ => rfl
      | ⟨3, _⟩, _ => rfl) h1.symm
  rw [e, val_main_v53_apply]
  congr 1
  funext a
  match a with
  | ⟨0, _⟩ => rfl
  | ⟨1, _⟩ => rfl
  | ⟨2, _⟩ => rfl

/-! ## The two results -/

theorem q_norm (r : Fin 16384) (d : Fin 512) :
    val_main_v55 (F := Ideal) x0 x1 x2 x3 (ix2 r (⟨d.val, by omega⟩ : Fin 768))
      = headNorm (fun j => proj x0 x1 x2 r ⟨1024 + j.val, by omega⟩) (x3 (ix2 (⟨d.val / 64, by omega⟩ : Fin 8) (⟨d.val % 64, by omega⟩ : Fin 64))) d := by
  rw [val_main_v55_apply, ← v33_apply]
  refine v35_left x0 x1 x2 x3 _ r _ _ ?_ ?_ ?_
  · show (r.val * 768 + d.val) / 768 = r.val; omega
  · show (r.val * 768 + d.val) / 64 % 12 = d.val / 64; omega
  · show (r.val * 768 + d.val) % 64 = d.val % 64; omega

theorem q_rest (r : Fin 16384) (d : Fin 256) :
    val_main_v55 (F := Ideal) x0 x1 x2 x3 (ix2 r (⟨512 + d.val, by omega⟩ : Fin 768)) = proj x0 x1 x2 r ⟨1536 + d.val, by omega⟩ := by
  rw [val_main_v55_apply]
  refine (v35_right x0 x1 x2 x3 _ r ⟨d.val / 64, by omega⟩ ⟨d.val % 64, by omega⟩ ?_ ?_ ?_).trans ?_
  · show (r.val * 768 + (512 + d.val)) / 768 = r.val; omega
  · show (r.val * 768 + (512 + d.val)) / 64 % 12 = d.val / 64 + 8; omega
  · show (r.val * 768 + (512 + d.val)) % 64 = d.val % 64; omega
  · congr 1
    apply Fin.ext
    show 1536 + (64 * (d.val / 64) + d.val % 64) = 1536 + d.val
    omega

theorem k_norm (r : Fin 16384) (d : Fin 512) :
    val_main_v56 (F := Ideal) x0 x1 x2 x4 (ix2 r (⟨d.val, by omega⟩ : Fin 1536))
      = headNorm (fun j => proj x0 x1 x2 r ⟨1792 + j.val, by omega⟩) (x4 (ix2 (⟨d.val / 64, by omega⟩ : Fin 8) (⟨d.val % 64, by omega⟩ : Fin 64))) d := by
  rw [val_main_v56_apply, v54_left x0 x1 x2 x4 _ (by show (r.val * 1536 + d.val) / 768 % 2 = 0; omega), ← v49_apply]
  refine v51_left x0 x1 x2 x4 _ r _ _ ?_ ?_ ?_
  · show (r.val * 1536 + d.val) / 1536 = r.val; omega
  · show (r.val * 1536 + d.val) / 64 % 12 = d.val / 64; omega
  · show (r.val * 1536 + d.val) % 64 = d.val % 64; omega

theorem k_rest (r : Fin 16384) (d : Fin 256) :
    val_main_v56 (F := Ideal) x0 x1 x2 x4 (ix2 r (⟨512 + d.val, by omega⟩ : Fin 1536)) = proj x0 x1 x2 r ⟨2304 + d.val, by omega⟩ := by
  rw [val_main_v56_apply, v54_left x0 x1 x2 x4 _ (by show (r.val * 1536 + (512 + d.val)) / 768 % 2 = 0; omega)]
  refine (v51_right x0 x1 x2 x4 _ r ⟨d.val / 64, by omega⟩ ⟨d.val % 64, by omega⟩ ?_ ?_ ?_).trans ?_
  · show (r.val * 1536 + (512 + d.val)) / 1536 = r.val; omega
  · show (r.val * 1536 + (512 + d.val)) / 64 % 12 = d.val / 64 + 8; omega
  · show (r.val * 1536 + (512 + d.val)) % 64 = d.val % 64; omega
  · congr 1
    apply Fin.ext
    show 2304 + (64 * (d.val / 64) + d.val % 64) = 2304 + d.val
    omega

theorem v_cols (r : Fin 16384) (d : Fin 768) :
    val_main_v56 (F := Ideal) x0 x1 x2 x4 (ix2 r (⟨768 + d.val, by omega⟩ : Fin 1536)) = proj x0 x1 x2 r ⟨2560 + d.val, by omega⟩ := by
  rw [val_main_v56_apply, v54_right x0 x1 x2 x4 _ (by show (r.val * 1536 + (768 + d.val)) / 768 % 2 = 1; omega)]
  refine v19_apply x0 x1 x2 _ r d ?_ ?_
  · show (r.val * 1536 + (768 + d.val)) / 1536 = r.val; omega
  · show 64 * ((r.val * 1536 + (768 + d.val)) / 64 % 12) + (r.val * 1536 + (768 + d.val)) % 64 = d.val; omega

end Cert.Reference4Ideal.Qkv

end
-- ==== Proof.Qkv.Value.lean ====
/- What the projection's pipeline leaves in its queries and in its keys and values: the reference's. -/
module

public import proofs.«01_k».proof.Proof.Qkv.Body
public import proofs.«01_k».proof.Proof.Qkv.Payload
public import proofs.«01_k».proof.Proof.Qkv.Ref
public import proofs.«01_k».proof.Proof.Gen.Kernel4Ideal.Value
public import Idealize.ShloMosaic.Lib.Pointwise

@[expose] public section

set_option maxRecDepth 16384

noncomputable section

namespace Cert.Kernel4Ideal.Qkv

open Cert.Kernel4Ideal Cert.Kernel4Ideal.Gen Cert.Qkv Idealize.ShloMosaic Idealize.ShloMosaic.TcCoe Idealize.SL.Sem
open Cert.Reference4Ideal.Read Cert.Reference4Ideal.Qkv

variable (m : (ℓ : Loc nD τ sig) → Buf (Elt Ideal) ℓ) (c : Dev nD)

/-- The argument arrays. -/
abbrev A0 : Vec Ideal S16384x1024 .f32 := m ((c : Thread nD τ).loc main_arg0)
abbrev A1 : Vec Ideal S1024 .f32 := m ((c : Thread nD τ).loc main_arg1)
abbrev A2 : Vec Ideal S1024x3332 .f32 := m ((c : Thread nD τ).loc main_arg2)
abbrev A3 : Vec Ideal S8x64 .f32 := m ((c : Thread nD τ).loc main_arg3)
abbrev A4 : Vec Ideal S8x64 .f32 := m ((c : Thread nD τ).loc main_arg4)

/-- The array's row that a row of point `t`'s tile is. -/
abbrev row (t : Fin cfg0.N) (r : Fin 512) : Fin 16384 :=
  ⟨512 * t.val + r.val, by have h : t.val < 32 := lt_of_lt_of_eq t.isLt N_0; omega⟩

/-! ## The blocks the windows read -/

theorem idx_in : ∀ t : Fin cfg0.N, win0_0.index t 0 = t.val ∧ win0_0.index t 1 = 0 ∧ win0_1.index t 0 = 0 ∧ win0_1.index t 1 = 0 ∧ win0_3.index t 0 = 0 ∧ win0_3.index t 1 = 0 ∧ win0_4.index t 0 = 0 ∧ win0_4.index t 1 = 0 ∧ win0_5.index t 0 = 0 ∧ win0_5.index t 1 = 0 ∧ win0_7.index t 0 = 0 ∧ win0_7.index t 1 = 0 ∧ win0_8.index t 0 = 0 ∧ win0_8.index t 1 = 0 :=
  (by decide +kernel : ∀ t : Fin grid0.N, _)

theorem iblk0 (t : Fin cfg0.N) (r : Fin 512) (k : Fin 1024) :
    (iblk m c 0 t : Vec Ideal S512x1024 .f32) (ix2 r k) = A0 m c (ix2 (row t r) k) := by
  obtain ⟨e00, e01, -⟩ := idx_in t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * t.val + r.val; rw [e00]; omega
  | ⟨1, _⟩ => show win0_0.index t 1 * 1024 + 1 * k.val = k.val; rw [e01]; omega

theorem V_v0 : @Eq (Vec Ideal S1x1024 .f32) (V m c main_v0) (shapeCast S1x1024 (A1 m c) shapeCasts_S1024_S1x1024) := by
  unfold V
  simp only [hostOps0, hostOps0_1, hostOps0_2, hostOps0_3, List.flatten_cons, List.flatten_nil, List.append_nil, List.cons_append, List.nil_append]
  after_results <;> rfl

theorem iblk1 (t : Fin cfg0.N) (k : Fin 1024) :
    (iblk m c 1 t : Vec Ideal S1x1024 .f32) (ix2 0 k) = A1 m c (ix1 k) := by
  obtain ⟨-, -, e10, e11, -⟩ := idx_in t
  unfold iblk
  rw [View.read_apply]
  refine (congrFun (V_v0 m c) _).trans ?_
  have e : ((cfg0.win 1).blk t).view.emb (ix2 (0 : Fin 1) k) = (ix2 (0 : Fin 1) k : S1x1024.Idx) := by
    funext a
    apply Fin.ext
    match a with
    | ⟨0, _⟩ => show win0_1.index t 0 * 1 + 1 * 0 = 0; rw [e10]
    | ⟨1, _⟩ => show win0_1.index t 1 * 1024 + 1 * k.val = k.val; rw [e11]; omega
  refine (congrArg (shapeCast S1x1024 (A1 m c) shapeCasts_S1024_S1x1024) e).trans ?_
  generalize A1 m c = x
  pointwise

theorem V_v4 : @Eq (Vec Ideal S1024x768 .bf16) (V m c main_v4) (truncf (F := Ideal) .bf16 (extractStridedSlice S1024x768 ![0, 1024] (A2 m c : FVec Ideal S1024x3332 .f32) slices_S1024x3332_S1024x768_0_1024) bitsLt_bf16_f32) := by
  unfold V
  simp only [hostOps0, hostOps0_1, hostOps0_2, hostOps0_3, List.flatten_cons, List.flatten_nil, List.append_nil, List.cons_append, List.nil_append]
  after_results <;> rfl

theorem cols3_apply (x : FVec Ideal S1024x3332 .f32) (k : Fin 1024) (d : Fin 768) :
    truncf (F := Ideal) .bf16 (extractStridedSlice S1024x768 ![0, 1024] x slices_S1024x3332_S1024x768_0_1024) bitsLt_bf16_f32 (ix2 k d) = x (ix2 k (⟨1024 + d.val, by omega⟩ : Fin 3332)) := by
  refine (extractStridedSlice_apply ![0, 1024] x slices_S1024x3332_S1024x768_0_1024 (ix2 k d) (ix2 k (⟨1024 + d.val, by omega⟩ : Fin 3332)) (fun a => ?_))
  match a with
  | ⟨0, _⟩ => show k.val = 0 + k.val; omega
  | ⟨1, _⟩ => show 1024 + d.val = 1024 + d.val; rfl

theorem iblk3 (t : Fin cfg0.N) (k : Fin 1024) (d : Fin 768) :
    (iblk m c 3 t : Vec Ideal S1024x768 .bf16) (ix2 k d) = A2 m c (ix2 k (⟨1024 + d.val, by omega⟩ : Fin 3332)) := by
  obtain ⟨-, -, -, -, e0, e1, -⟩ := idx_in t
  unfold iblk
  rw [View.read_apply]
  refine (congrFun (V_v4 m c) _).trans ?_
  have e : ((cfg0.win 3).blk t).view.emb (ix2 k d) = (ix2 k d : S1024x768.Idx) := by
    funext a
    apply Fin.ext
    match a with
    | ⟨0, _⟩ => show win0_3.index t 0 * 1024 + 1 * k.val = k.val; rw [e0]; omega
    | ⟨1, _⟩ => show win0_3.index t 1 * 768 + 1 * d.val = d.val; rw [e1]; omega
  refine (congrArg (truncf (F := Ideal) .bf16 (extractStridedSlice S1024x768 ![0, 1024] (A2 m c : FVec Ideal S1024x3332 .f32) slices_S1024x3332_S1024x768_0_1024) bitsLt_bf16_f32) e).trans ?_
  exact cols3_apply _ k d

theorem V_v6 : @Eq (Vec Ideal S1024x768 .bf16) (V m c main_v6) (truncf (F := Ideal) .bf16 (extractStridedSlice S1024x768 ![0, 1792] (A2 m c : FVec Ideal S1024x3332 .f32) slices_S1024x3332_S1024x768_0_1792) bitsLt_bf16_f32) := by
  unfold V
  simp only [hostOps0, hostOps0_1, hostOps0_2, hostOps0_3, List.flatten_cons, List.flatten_nil, List.append_nil, List.cons_append, List.nil_append]
  after_results <;> rfl

theorem cols4_apply (x : FVec Ideal S1024x3332 .f32) (k : Fin 1024) (d : Fin 768) :
    truncf (F := Ideal) .bf16 (extractStridedSlice S1024x768 ![0, 1792] x slices_S1024x3332_S1024x768_0_1792) bitsLt_bf16_f32 (ix2 k d) = x (ix2 k (⟨1792 + d.val, by omega⟩ : Fin 3332)) := by
  refine (extractStridedSlice_apply ![0, 1792] x slices_S1024x3332_S1024x768_0_1792 (ix2 k d) (ix2 k (⟨1792 + d.val, by omega⟩ : Fin 3332)) (fun a => ?_))
  match a with
  | ⟨0, _⟩ => show k.val = 0 + k.val; omega
  | ⟨1, _⟩ => show 1792 + d.val = 1792 + d.val; rfl

theorem iblk4 (t : Fin cfg0.N) (k : Fin 1024) (d : Fin 768) :
    (iblk m c 4 t : Vec Ideal S1024x768 .bf16) (ix2 k d) = A2 m c (ix2 k (⟨1792 + d.val, by omega⟩ : Fin 3332)) := by
  obtain ⟨-, -, -, -, -, -, e0, e1, -⟩ := idx_in t
  unfold iblk
  rw [View.read_apply]
  refine (congrFun (V_v6 m c) _).trans ?_
  have e : ((cfg0.win 4).blk t).view.emb (ix2 k d) = (ix2 k d : S1024x768.Idx) := by
    funext a
    apply Fin.ext
    match a with
    | ⟨0, _⟩ => show win0_4.index t 0 * 1024 + 1 * k.val = k.val; rw [e0]; omega
    | ⟨1, _⟩ => show win0_4.index t 1 * 768 + 1 * d.val = d.val; rw [e1]; omega
  refine (congrArg (truncf (F := Ideal) .bf16 (extractStridedSlice S1024x768 ![0, 1792] (A2 m c : FVec Ideal S1024x3332 .f32) slices_S1024x3332_S1024x768_0_1792) bitsLt_bf16_f32) e).trans ?_
  exact cols4_apply _ k d

theorem V_v8 : @Eq (Vec Ideal S1024x768 .bf16) (V m c main_v8) (truncf (F := Ideal) .bf16 (extractStridedSlice S1024x768 ![0, 2560] (A2 m c : FVec Ideal S1024x3332 .f32) slices_S1024x3332_S1024x768_0_2560) bitsLt_bf16_f32) := by
  unfold V
  simp only [hostOps0, hostOps0_1, hostOps0_2, hostOps0_3, List.flatten_cons, List.flatten_nil, List.append_nil, List.cons_append, List.nil_append]
  after_results <;> rfl

theorem cols5_apply (x : FVec Ideal S1024x3332 .f32) (k : Fin 1024) (d : Fin 768) :
    truncf (F := Ideal) .bf16 (extractStridedSlice S1024x768 ![0, 2560] x slices_S1024x3332_S1024x768_0_2560) bitsLt_bf16_f32 (ix2 k d) = x (ix2 k (⟨2560 + d.val, by omega⟩ : Fin 3332)) := by
  refine (extractStridedSlice_apply ![0, 2560] x slices_S1024x3332_S1024x768_0_2560 (ix2 k d) (ix2 k (⟨2560 + d.val, by omega⟩ : Fin 3332)) (fun a => ?_))
  match a with
  | ⟨0, _⟩ => show k.val = 0 + k.val; omega
  | ⟨1, _⟩ => show 2560 + d.val = 2560 + d.val; rfl

theorem iblk5 (t : Fin cfg0.N) (k : Fin 1024) (d : Fin 768) :
    (iblk m c 5 t : Vec Ideal S1024x768 .bf16) (ix2 k d) = A2 m c (ix2 k (⟨2560 + d.val, by omega⟩ : Fin 3332)) := by
  obtain ⟨-, -, -, -, -, -, -, -, e0, e1, -⟩ := idx_in t
  unfold iblk
  rw [View.read_apply]
  refine (congrFun (V_v8 m c) _).trans ?_
  have e : ((cfg0.win 5).blk t).view.emb (ix2 k d) = (ix2 k d : S1024x768.Idx) := by
    funext a
    apply Fin.ext
    match a with
    | ⟨0, _⟩ => show win0_5.index t 0 * 1024 + 1 * k.val = k.val; rw [e0]; omega
    | ⟨1, _⟩ => show win0_5.index t 1 * 768 + 1 * d.val = d.val; rw [e1]; omega
  refine (congrArg (truncf (F := Ideal) .bf16 (extractStridedSlice S1024x768 ![0, 2560] (A2 m c : FVec Ideal S1024x3332 .f32) slices_S1024x3332_S1024x768_0_2560) bitsLt_bf16_f32) e).trans ?_
  exact cols5_apply _ k d

theorem heads_apply (x : FVec Ideal S8x64 .f32) (d : Fin 512) :
    shapeCast S1x512 x shapeCasts_S8x64_S1x512 (ix2 0 d) = x (ix2 (⟨d.val / 64, by omega⟩ : Fin 8) (⟨d.val % 64, by omega⟩ : Fin 64)) := by
  pointwise

theorem V_v12 : @Eq (Vec Ideal S1x512 .f32) (V m c main_v12) (shapeCast S1x512 (A3 m c) shapeCasts_S8x64_S1x512) := by
  unfold V
  simp only [hostOps0, hostOps0_1, hostOps0_2, hostOps0_3, List.flatten_cons, List.flatten_nil, List.append_nil, List.cons_append, List.nil_append]
  after_results <;> rfl

theorem iblk7 (t : Fin cfg0.N) (d : Fin 512) :
    (iblk m c 7 t : Vec Ideal S1x512 .f32) (ix2 0 d) = A3 m c (ix2 (⟨d.val / 64, by omega⟩ : Fin 8) (⟨d.val % 64, by omega⟩ : Fin 64)) := by
  obtain ⟨-, -, -, -, -, -, -, -, -, -, e0, e1, -⟩ := idx_in t
  unfold iblk
  rw [View.read_apply]
  refine (congrFun (V_v12 m c) _).trans ?_
  have e : ((cfg0.win 7).blk t).view.emb (ix2 (0 : Fin 1) d) = (ix2 (0 : Fin 1) d : S1x512.Idx) := by
    funext a
    apply Fin.ext
    match a with
    | ⟨0, _⟩ => show win0_7.index t 0 * 1 + 1 * 0 = 0; rw [e0]
    | ⟨1, _⟩ => show win0_7.index t 1 * 512 + 1 * d.val = d.val; rw [e1]; omega
  refine (congrArg (shapeCast S1x512 (A3 m c) shapeCasts_S8x64_S1x512) e).trans ?_
  exact heads_apply _ d

theorem V_v13 : @Eq (Vec Ideal S1x512 .f32) (V m c main_v13) (shapeCast S1x512 (A4 m c) shapeCasts_S8x64_S1x512) := by
  unfold V
  simp only [hostOps0, hostOps0_1, hostOps0_2, hostOps0_3, List.flatten_cons, List.flatten_nil, List.append_nil, List.cons_append, List.nil_append]
  after_results <;> rfl

theorem iblk8 (t : Fin cfg0.N) (d : Fin 512) :
    (iblk m c 8 t : Vec Ideal S1x512 .f32) (ix2 0 d) = A4 m c (ix2 (⟨d.val / 64, by omega⟩ : Fin 8) (⟨d.val % 64, by omega⟩ : Fin 64)) := by
  obtain ⟨-, -, -, -, -, -, -, -, -, -, -, -, e0, e1⟩ := idx_in t
  unfold iblk
  rw [View.read_apply]
  refine (congrFun (V_v13 m c) _).trans ?_
  have e : ((cfg0.win 8).blk t).view.emb (ix2 (0 : Fin 1) d) = (ix2 (0 : Fin 1) d : S1x512.Idx) := by
    funext a
    apply Fin.ext
    match a with
    | ⟨0, _⟩ => show win0_8.index t 0 * 1 + 1 * 0 = 0; rw [e0]
    | ⟨1, _⟩ => show win0_8.index t 1 * 512 + 1 * d.val = d.val; rw [e1]; omega
  refine (congrArg (shapeCast S1x512 (A4 m c) shapeCasts_S8x64_S1x512) e).trans ?_
  exact heads_apply _ d

/-! ## The values of a point -/

/-- The normalised rows of a tile whose blocks are rows of the arrays. -/
theorem norm_of (R : Fin 512 → Fin 16384) (y0 : Vec Ideal S512x1024 .f32) (y1 : Vec Ideal S1x1024 .f32)
    (h0 : ∀ r k, y0 (ix2 r k) = A0 m c (ix2 (R r) k)) (h1 : ∀ k, y1 (ix2 0 k) = A1 m c (ix1 k)) (r : Fin 512) (k : Fin 1024) :
    k0_pay3 (F := Ideal) y0 y1 (ix2 r k) = nrm (A0 m c) (A1 m c) (R r) k := by
  rw [pay3_apply]
  unfold nrm
  simp only [h0, h1]

/-- The query columns of such a tile. -/
theorem cols_of6 (R : Fin 512 → Fin 16384) (y0 : Vec Ideal S512x1024 .f32) (y1 : Vec Ideal S1x1024 .f32) (w : Vec Ideal S1024x768 .bf16)
    (h0 : ∀ r k, y0 (ix2 r k) = A0 m c (ix2 (R r) k)) (h1 : ∀ k, y1 (ix2 0 k) = A1 m c (ix1 k))
    (hw : ∀ (k : Fin 1024) (d : Fin 768), w (ix2 k d) = A2 m c (ix2 k (⟨1024 + d.val, by omega⟩ : Fin 3332))) (r : Fin 512) (d : Fin 768) :
    k0_pay6 (F := Ideal) y0 y1 w (ix2 r d) = proj (A0 m c) (A1 m c) (A2 m c) (R r) ⟨1024 + d.val, by omega⟩ := by
  rw [pay6_apply]
  unfold proj
  simp only [norm_of m c R y0 y1 h0 h1, hw]

/-- The key columns of such a tile. -/
theorem cols_of7 (R : Fin 512 → Fin 16384) (y0 : Vec Ideal S512x1024 .f32) (y1 : Vec Ideal S1x1024 .f32) (w : Vec Ideal S1024x768 .bf16)
    (h0 : ∀ r k, y0 (ix2 r k) = A0 m c (ix2 (R r) k)) (h1 : ∀ k, y1 (ix2 0 k) = A1 m c (ix1 k))
    (hw : ∀ (k : Fin 1024) (d : Fin 768), w (ix2 k d) = A2 m c (ix2 k (⟨1792 + d.val, by omega⟩ : Fin 3332))) (r : Fin 512) (d : Fin 768) :
    k0_pay7 (F := Ideal) y0 y1 w (ix2 r d) = proj (A0 m c) (A1 m c) (A2 m c) (R r) ⟨1792 + d.val, by omega⟩ := by
  rw [pay7_apply]
  unfold proj
  simp only [norm_of m c R y0 y1 h0 h1, hw]

/-- The value columns of such a tile. -/
theorem cols_of8 (R : Fin 512 → Fin 16384) (y0 : Vec Ideal S512x1024 .f32) (y1 : Vec Ideal S1x1024 .f32) (w : Vec Ideal S1024x768 .bf16)
    (h0 : ∀ r k, y0 (ix2 r k) = A0 m c (ix2 (R r) k)) (h1 : ∀ k, y1 (ix2 0 k) = A1 m c (ix1 k))
    (hw : ∀ (k : Fin 1024) (d : Fin 768), w (ix2 k d) = A2 m c (ix2 k (⟨2560 + d.val, by omega⟩ : Fin 3332))) (r : Fin 512) (d : Fin 768) :
    k0_pay8 (F := Ideal) y0 y1 w (ix2 r d) = proj (A0 m c) (A1 m c) (A2 m c) (R r) ⟨2560 + d.val, by omega⟩ := by
  rw [pay8_apply]
  unfold proj
  simp only [norm_of m c R y0 y1 h0 h1, hw]

/-- What the precondition says of the arrays: the norm's and the projection's weights are real. -/
def RealWeights : Prop := (∀ k, Real' (A1 m c (ix1 k))) ∧ ∀ k d, Real' (A2 m c (ix2 k d))

/-- Then the whole projection is real. -/
theorem proj_real (h : RealWeights m c) (r : Fin 16384) (d : Fin 3332) : Real' (proj (A0 m c) (A1 m c) (A2 m c) r d) :=
  Real'.sum _ _ fun k => (normed_real (fun k => A0 m c (ix2 r k)) _ (h.1 k) k).mul (h.2 k d)

/-- The reference's queries of a tile's rows. -/
abbrev GQ (R : Fin 512 → Fin 16384) : Vec Ideal S512x768 .f32 := fun i =>
  val_main_v55 (F := Ideal) (A0 m c) (A1 m c) (A2 m c) (A3 m c) (ix2 (R (⟨(i 0).val, (i 0).isLt⟩ : Fin 512)) (⟨(i 1).val, (i 1).isLt⟩ : Fin 768))

/-- The reference's keys and values of a tile's rows. -/
abbrev GKV (R : Fin 512 → Fin 16384) : Vec Ideal S512x1536 .f32 := fun i =>
  val_main_v56 (F := Ideal) (A0 m c) (A1 m c) (A2 m c) (A4 m c) (ix2 (R (⟨(i 0).val, (i 0).isLt⟩ : Fin 512)) (⟨(i 1).val, (i 1).isLt⟩ : Fin 1536))

theorem q_tile (h : RealWeights m c) (R : Fin 512 → Fin 16384) (y0 : Vec Ideal S512x1024 .f32) (y1 : Vec Ideal S1x1024 .f32) (w : Vec Ideal S1024x768 .bf16) (g : Vec Ideal S1x512 .f32)
    (h0 : ∀ r k, y0 (ix2 r k) = A0 m c (ix2 (R r) k)) (h1 : ∀ k, y1 (ix2 0 k) = A1 m c (ix1 k))
    (hw : ∀ (k : Fin 1024) (d : Fin 768), w (ix2 k d) = A2 m c (ix2 k (⟨1024 + d.val, by omega⟩ : Fin 3332)))
    (hg : ∀ d : Fin 512, g (ix2 0 d) = A3 m c (ix2 (⟨d.val / 64, by omega⟩ : Fin 8) (⟨d.val % 64, by omega⟩ : Fin 64))) :
    QTile y0 y1 w g (GQ m c R) := by
  have hc := cols_of6 m c R y0 y1 w h0 h1 hw
  refine ⟨fun x => ?_, fun x => ?_⟩
  · obtain ⟨r, d, rfl⟩ : ∃ (r : Fin 512) (d : Fin 512), x = ix2 r d := ⟨x 0, x 1, funext fun k => match k with
      | ⟨0, _⟩ => rfl
      | ⟨1, _⟩ => rfl⟩
    have e : (Rect.unit (s := S512x768) ![0, 0] S512x512.size inb_S512x768_S512x512_0_0).emb (ix2 r d) = (ix2 r (⟨d.val, by omega⟩ : Fin 768) : S512x768.Idx) := by
      funext a
      apply Fin.ext
      match a with
      | ⟨0, _⟩ => show 0 + 1 * r.val = r.val; omega
      | ⟨1, _⟩ => show 0 + 1 * d.val = d.val; omega
    refine Eq.trans ?_ (congrArg (GQ m c R) e).symm
    rw [pay15_apply _ _ _ _ (fun j => by rw [hc]; exact proj_real m c h _ _), hg]
    refine Eq.trans ?_ (q_norm (A0 m c) (A1 m c) (A2 m c) (A3 m c) (R r) d).symm
    simp only [hc]
  · obtain ⟨r, d, rfl⟩ : ∃ (r : Fin 512) (d : Fin 256), x = ix2 r d := ⟨x 0, x 1, funext fun k => match k with
      | ⟨0, _⟩ => rfl
      | ⟨1, _⟩ => rfl⟩
    have e : (Rect.unit (s := S512x768) ![0, 512] S512x256.size inb_S512x768_S512x256_0_512).emb (ix2 r d) = (ix2 r (⟨512 + d.val, by omega⟩ : Fin 768) : S512x768.Idx) := by
      funext a
      apply Fin.ext
      match a with
      | ⟨0, _⟩ => show 0 + 1 * r.val = r.val; omega
      | ⟨1, _⟩ => show 512 + 1 * d.val = 512 + d.val; omega
    refine Eq.trans ?_ (congrArg (GQ m c R) e).symm
    rw [pay16_apply, hc]
    refine Eq.trans ?_ (q_rest (A0 m c) (A1 m c) (A2 m c) (A3 m c) (R r) d).symm
    congr 1
    apply Fin.ext
    show 1024 + (512 + d.val) = 1536 + d.val
    omega

theorem kv_tile (h : RealWeights m c) (R : Fin 512 → Fin 16384) (y0 : Vec Ideal S512x1024 .f32) (y1 : Vec Ideal S1x1024 .f32) (w w' : Vec Ideal S1024x768 .bf16) (g : Vec Ideal S1x512 .f32)
    (h0 : ∀ r k, y0 (ix2 r k) = A0 m c (ix2 (R r) k)) (h1 : ∀ k, y1 (ix2 0 k) = A1 m c (ix1 k))
    (hw : ∀ (k : Fin 1024) (d : Fin 768), w (ix2 k d) = A2 m c (ix2 k (⟨1792 + d.val, by omega⟩ : Fin 3332)))
    (hw' : ∀ (k : Fin 1024) (d : Fin 768), w' (ix2 k d) = A2 m c (ix2 k (⟨2560 + d.val, by omega⟩ : Fin 3332)))
    (hg : ∀ d : Fin 512, g (ix2 0 d) = A4 m c (ix2 (⟨d.val / 64, by omega⟩ : Fin 8) (⟨d.val % 64, by omega⟩ : Fin 64))) :
    KVTile y0 y1 w w' g (GKV m c R) := by
  have hc := cols_of7 m c R y0 y1 w h0 h1 hw
  have hc' := cols_of8 m c R y0 y1 w' h0 h1 hw'
  refine ⟨fun x => ?_, fun x => ?_, fun x => ?_⟩
  · obtain ⟨r, d, rfl⟩ : ∃ (r : Fin 512) (d : Fin 512), x = ix2 r d := ⟨x 0, x 1, funext fun k => match k with
      | ⟨0, _⟩ => rfl
      | ⟨1, _⟩ => rfl⟩
    have e : (Rect.unit (s := S512x1536) ![0, 0] S512x512.size inb_S512x1536_S512x512_0_0).emb (ix2 r d) = (ix2 r (⟨d.val, by omega⟩ : Fin 1536) : S512x1536.Idx) := by
      funext a
      apply Fin.ext
      match a with
      | ⟨0, _⟩ => show 0 + 1 * r.val = r.val; omega
      | ⟨1, _⟩ => show 0 + 1 * d.val = d.val; omega
    refine Eq.trans ?_ (congrArg (GKV m c R) e).symm
    rw [pay14_apply _ _ _ _ (fun j => by rw [hc]; exact proj_real m c h _ _), hg]
    refine Eq.trans ?_ (k_norm (A0 m c) (A1 m c) (A2 m c) (A4 m c) (R r) d).symm
    simp only [hc]
  · obtain ⟨r, d, rfl⟩ : ∃ (r : Fin 512) (d : Fin 256), x = ix2 r d := ⟨x 0, x 1, funext fun k => match k with
      | ⟨0, _⟩ => rfl
      | ⟨1, _⟩ => rfl⟩
    have e : (Rect.unit (s := S512x1536) ![0, 512] S512x256.size inb_S512x1536_S512x256_0_512).emb (ix2 r d) = (ix2 r (⟨512 + d.val, by omega⟩ : Fin 1536) : S512x1536.Idx) := by
      funext a
      apply Fin.ext
      match a with
      | ⟨0, _⟩ => show 0 + 1 * r.val = r.val; omega
      | ⟨1, _⟩ => show 512 + 1 * d.val = 512 + d.val; omega
    refine Eq.trans ?_ (congrArg (GKV m c R) e).symm
    rw [pay17_apply, hc]
    refine Eq.trans ?_ (k_rest (A0 m c) (A1 m c) (A2 m c) (A4 m c) (R r) d).symm
    congr 1
    apply Fin.ext
    show 1792 + (512 + d.val) = 2304 + d.val
    omega
  · obtain ⟨r, d, rfl⟩ : ∃ (r : Fin 512) (d : Fin 768), x = ix2 r d := ⟨x 0, x 1, funext fun k => match k with
      | ⟨0, _⟩ => rfl
      | ⟨1, _⟩ => rfl⟩
    have e : (Rect.unit (s := S512x1536) ![0, 768] S512x768.size inb_S512x1536_S512x768_0_768).emb (ix2 r d) = (ix2 r (⟨768 + d.val, by omega⟩ : Fin 1536) : S512x1536.Idx) := by
      funext a
      apply Fin.ext
      match a with
      | ⟨0, _⟩ => show 0 + 1 * r.val = r.val; omega
      | ⟨1, _⟩ => show 768 + 1 * d.val = 768 + d.val; omega
    refine Eq.trans ?_ (congrArg (GKV m c R) e).symm
    rw [hc']
    exact (v_cols (A0 m c) (A1 m c) (A2 m c) (A4 m c) (R r) d).symm

theorem out11_eq (h : RealWeights m c) (t : Fin cfg0.N) (r : Fin 512) (d : Fin 768) :
    ((outsAt0 m c t.val t.isLt).2.1 : Vec Ideal S512x768 .f32) (ix2 r d) = val_main_v55 (F := Ideal) (A0 m c) (A1 m c) (A2 m c) (A3 m c) (ix2 (row t r) d) := by
  by_cases h0 : t.val % 8 = 0
  · rw [outsAt0_A m c t h0]
    dsimp only
    exact congrFun (out0_A_11_eq _ _ _ _ _ _ _ _ _ _ _ _ _ _ _ _ _ _ _ _ _ _ _ _ _ _ _ _ _ _ _ _ _ _ _ _ _ _ _ _ _ _ _ _ _ _ _ _ (q_tile m c h (row t) _ _ _ _ (iblk0 m c t) (iblk1 m c t) (iblk3 m c t) (iblk7 m c t))) (ix2 r d)
  · rw [outsAt0_B m c t h0]
    dsimp only
    exact congrFun (out0_B_11_eq _ _ _ _ _ _ _ _ _ _ _ _ _ _ _ _ _ _ _ _ _ _ _ _ _ _ _ _ _ _ _ _ _ _ _ _ _ _ _ _ _ _ _ _ _ _ _ _ _ (q_tile m c h (row t) _ _ _ _ (iblk0 m c t) (iblk1 m c t) (iblk3 m c t) (iblk7 m c t))) (ix2 r d)

/-- THE FIRST RESULT: the queries the pipeline leaves are the reference's. -/
theorem result11_eq (h : RealWeights m c) : (Value.G11 m c : Vec Ideal S16384x768 .f32) = val_main_v55 (F := Ideal) (A0 m c) (A1 m c) (A2 m c) (A3 m c) := by
  funext i
  have hi0 : (i 0).val < 16384 := (i 0).isLt
  have hi1 : (i 1).val < 768 := (i 1).isLt
  have hp : Value.pt11Of i = (i 0).val / 512 := by
    show 1 * ((i 0).val / 512 - 0) + 1 * ((i 1).val / 768 - 0) = _
    omega
  have hlt : Value.pt11Of i < cfg0.N := by rw [hp, show cfg0.N = 32 from N_0]; omega
  unfold Value.G11
  rw [dif_pos hlt, ← Value.outsAt0_sweep m c (Value.pt11Of i) hlt]
  have el : Value.loc11Of i = ix2 (⟨(i 0).val % 512, Nat.mod_lt _ (by decide)⟩ : Fin 512) (⟨(i 1).val % 768, Nat.mod_lt _ (by decide)⟩ : Fin 768) := by
    funext a
    match a with
    | ⟨0, _⟩ => rfl
    | ⟨1, _⟩ => rfl
  rw [el]
  refine (out11_eq m c h ⟨Value.pt11Of i, hlt⟩ _ _).trans ?_
  congr 1
  funext a
  apply Fin.ext
  match a with
  | ⟨0, _⟩ => show 512 * Value.pt11Of i + (i 0).val % 512 = (i 0).val; omega
  | ⟨1, _⟩ => show (i 1).val % 768 = (i 1).val; omega

theorem out12_eq (h : RealWeights m c) (t : Fin cfg0.N) (r : Fin 512) (d : Fin 1536) :
    ((outsAt0 m c t.val t.isLt).2.2.1 : Vec Ideal S512x1536 .f32) (ix2 r d) = val_main_v56 (F := Ideal) (A0 m c) (A1 m c) (A2 m c) (A4 m c) (ix2 (row t r) d) := by
  by_cases h0 : t.val % 8 = 0
  · rw [outsAt0_A m c t h0]
    dsimp only
    exact congrFun (out0_A_12_eq _ _ _ _ _ _ _ _ _ _ _ _ _ _ _ _ _ _ _ _ _ _ _ _ _ _ _ _ _ _ _ _ _ _ _ _ _ _ _ _ _ _ _ _ _ _ _ _ (kv_tile m c h (row t) _ _ _ _ _ (iblk0 m c t) (iblk1 m c t) (iblk4 m c t) (iblk5 m c t) (iblk8 m c t))) (ix2 r d)
  · rw [outsAt0_B m c t h0]
    dsimp only
    exact congrFun (out0_B_12_eq _ _ _ _ _ _ _ _ _ _ _ _ _ _ _ _ _ _ _ _ _ _ _ _ _ _ _ _ _ _ _ _ _ _ _ _ _ _ _ _ _ _ _ _ _ _ _ _ _ (kv_tile m c h (row t) _ _ _ _ _ (iblk0 m c t) (iblk1 m c t) (iblk4 m c t) (iblk5 m c t) (iblk8 m c t))) (ix2 r d)

/-- THE SECOND RESULT: the keys and values the pipeline leaves are the reference's. -/
theorem result12_eq (h : RealWeights m c) : (Value.G12 m c : Vec Ideal S16384x1536 .f32) = val_main_v56 (F := Ideal) (A0 m c) (A1 m c) (A2 m c) (A4 m c) := by
  funext i
  have hi0 : (i 0).val < 16384 := (i 0).isLt
  have hi1 : (i 1).val < 1536 := (i 1).isLt
  have hp : Value.pt12Of i = (i 0).val / 512 := by
    show 1 * ((i 0).val / 512 - 0) + 1 * ((i 1).val / 1536 - 0) = _
    omega
  have hlt : Value.pt12Of i < cfg0.N := by rw [hp, show cfg0.N = 32 from N_0]; omega
  unfold Value.G12
  rw [dif_pos hlt, ← Value.outsAt0_sweep m c (Value.pt12Of i) hlt]
  have el : Value.loc12Of i = ix2 (⟨(i 0).val % 512, Nat.mod_lt _ (by decide)⟩ : Fin 512) (⟨(i 1).val % 1536, Nat.mod_lt _ (by decide)⟩ : Fin 1536) := by
    funext a
    match a with
    | ⟨0, _⟩ => rfl
    | ⟨1, _⟩ => rfl
  rw [el]
  refine (out12_eq m c h ⟨Value.pt12Of i, hlt⟩ _ _).trans ?_
  congr 1
  funext a
  apply Fin.ext
  match a with
  | ⟨0, _⟩ => show 512 * Value.pt12Of i + (i 0).val % 512 = (i 0).val; omega
  | ⟨1, _⟩ => show (i 1).val % 1536 = (i 1).val; omega

end Cert.Kernel4Ideal.Qkv

end
-- ==== Proof.Qkv.Claim.lean ====
/- The claims of the projection's queries, keys and values: their reference's frame, and the kernel's two results at the
   ideal instance. -/
module

public import proofs.«01_k».proof.Proof.Qkv.Value
public import proofs.«01_k».proof.Proof.Gen.Reference4Ideal.Run
public import proofs.«01_k».proof.Proof.Gen.Pre_finite_weights
public import proofs.«01_k».proof.Defs
public import Idealize.ShloMosaic.Lib.Quiescent

@[expose] public section

noncomputable section

namespace Cert.Kernel4Ideal.Qkv

open Cert.Qkv Idealize.ShloMosaic Idealize.ShloMosaic.TcCoe Idealize.SL.Sem

/-- The reference's frame. -/
theorem frame_reference4 : Cert.quiescent_Reference4Ideal := by
  intro m g _
  exact (θ_run Cert.Reference4Ideal.defs _ _).mono (fun r h => ⟨fun c => (h c).2.2, Idealize.ShloMosaic.sem_eq_zero_of_no_sems (by decide) r.2⟩)
    (Cert.Reference4Ideal.Value.run (F := Ideal) m g)

/-- The reference's frame where the precondition holds. -/
theorem frame_reference4_pre : Cert.quiescent_Reference4Ideal_pre_finite_weights := by
  intro m g _
  exact (θ_run Cert.Reference4Ideal.defs _ _).mono (fun r h => ⟨fun c => (h c).2.2, Idealize.ShloMosaic.sem_eq_zero_of_no_sems (by decide) r.2⟩)
    (Cert.Reference4Ideal.Value.run (F := Ideal) m g)

/-- A value the comparisons with both infinities find between them is real. -/
theorem real_of_cmp (x : EReal) (h : IntOp.andi (Ideal.cmp .ogt x (Ideal.ofBits .f32 0xFF800000#32)) (Ideal.cmp .olt x (Ideal.ofBits .f32 0x7F800000#32)) = 1#1) : Real' x := by
  have ht : Ideal.ofBits .f32 0x7F800000#32 = ⊤ := by simp [Ideal.ofBits, Ideal.ieee]
  have hb : Ideal.ofBits .f32 0xFF800000#32 = ⊥ := by simp [Ideal.ofBits, Ideal.ieee]
  rw [ht, hb] at h
  refine Real'.of_bounds ?_ ?_
  · rintro rfl
    simp [Ideal.cmp, IntOp.andi] at h
  · rintro rfl
    simp [Ideal.cmp, IntOp.andi] at h

/-- The precondition, read: the two weights' values are real. -/
theorem real_of_pre (m : (ℓ : Loc Cert.Kernel4Ideal.nD Cert.Kernel4Ideal.τ Cert.Kernel4Ideal.sig) → Buf (Elt Ideal) ℓ)
    (h : Cert.Pre_Kernel4Ideal_finite_weights m) (c : Dev Cert.Kernel4Ideal.nD) : RealWeights m c := by
  obtain ⟨h1, h2⟩ := h c
  exact ⟨fun k => real_of_cmp _ (congrFun h1 (ix1 k)), fun k d => real_of_cmp _ (congrFun h2 (ix2 k d))⟩

/-- The kernel's two results are the reference's, over the extended reals, where the norm's and the projection's weights
    are finite. -/
theorem algebraic4 : Cert.algebraic_Kernel4Ideal_Reference4Ideal_pre_finite_weights := by
  intro m g m' g' hp hag
  refine ⟨fun c => Cert.Kernel4Ideal.Value.G11 m c, fun c => Cert.Kernel4Ideal.Value.G12 m c, ?_, ?_⟩
  · exact (θ_run Cert.Kernel4Ideal.defs _ _).mono (fun r h c => ⟨(h c).2.1, (h c).2.2.1, (h c).2.2.2.2.2.2⟩) (Cert.Kernel4Ideal.Value.run m g)
  · refine (θ_run Cert.Reference4Ideal.defs _ _).mono (fun r h c => ⟨(h c).1.trans ?_, (h c).2.1.trans ?_, (h c).2.2⟩) (Cert.Reference4Ideal.Value.run (F := Ideal) m' g')
    · obtain ⟨a0, a1, a2, a3, a4, a5⟩ := hag c
      rw [Cert.Reference4Ideal.Read.val_main_v55_eq, a0, a1, a2, a3]
      exact (result11_eq m c (real_of_pre m hp c)).symm
    · obtain ⟨a0, a1, a2, a3, a4, a5⟩ := hag c
      rw [Cert.Reference4Ideal.Read.val_main_v56_eq, a0, a1, a2, a4]
      exact (result12_eq m c (real_of_pre m hp c)).symm

end Cert.Kernel4Ideal.Qkv

end
-- ==== Proof.lean ====
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_weights
public import proofs.«01_k».proof.Proof.Mlp.Claim
public import proofs.«01_k».proof.Proof.Proj.Claim
public import proofs.«01_k».proof.Proof.Qkv.Claim

@[expose] public section

noncomputable section

namespace Cert.Proof

open Idealize.ShloMosaic Idealize.SL.Sem

theorem claim : Cert.Claim :=
  ⟨Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts, Cert.Pre_finite_weights.Gen.facts,
   fun m ρ _ => Cert.Kernel2.Gen.frame m ρ, fun m ρ _ => Cert.Kernel2Ideal.Gen.frame m ρ, Cert.Kernel2Ideal.Mlp.frame_reference2,
   fun m ρ _ => Cert.Kernel3.Gen.frame m ρ, fun m ρ _ => Cert.Kernel3Ideal.Gen.frame m ρ, Cert.Kernel3Ideal.Proj.frame_reference3,
   fun m ρ _ => Cert.Kernel4.Gen.frame m ρ, fun m ρ _ => Cert.Kernel4Ideal.Gen.frame m ρ, fun m ρ _ => Cert.Kernel4Ideal.Gen.frame m ρ,
   Cert.Kernel4Ideal.Qkv.frame_reference4, Cert.Kernel4Ideal.Qkv.frame_reference4_pre,
   trivial, Cert.Kernel2Ideal.Mlp.algebraic2, trivial, Cert.Kernel3Ideal.Proj.algebraic3, trivial, Cert.Kernel4Ideal.Qkv.algebraic4⟩

end Cert.Proof

end
